-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x320x320 : Shape := ⟨3, ![256, 320, 320]⟩
abbrev S168 : Shape := ⟨1, ![168]⟩
abbrev S320 : Shape := ⟨1, ![320]⟩
abbrev S320x1 : Shape := ⟨2, ![320, 1]⟩
abbrev S1x320 : Shape := ⟨2, ![1, 320]⟩
abbrev S320x320 : Shape := ⟨2, ![320, 320]⟩
abbrev S_ : Shape := ⟨0, ![]⟩
abbrev S7x320 : Shape := ⟨2, ![7, 320]⟩
abbrev S161x320 : Shape := ⟨2, ![161, 320]⟩
abbrev S336x320 : Shape := ⟨2, ![336, 320]⟩
abbrev S64x640 : Shape := ⟨2, ![64, 640]⟩
abbrev S320x640 : Shape := ⟨2, ![320, 640]⟩
abbrev S768x640 : Shape := ⟨2, ![768, 640]⟩
abbrev S168x1 : Shape := ⟨2, ![168, 1]⟩
abbrev S168x320 : Shape := ⟨2, ![168, 320]⟩
abbrev S2x168x640 : Shape := ⟨3, ![2, 168, 640]⟩
abbrev S8x320x320 : Shape := ⟨3, ![8, 320, 320]⟩
abbrev S1x168x640 : Shape := ⟨3, ![1, 168, 640]⟩
abbrev S8x168x768 : Shape := ⟨3, ![8, 168, 768]⟩
abbrev S1x320x320 : Shape := ⟨3, ![1, 320, 320]⟩
abbrev S1x168x320 : Shape := ⟨3, ![1, 168, 320]⟩
abbrev S1x168x768 : Shape := ⟨3, ![1, 168, 768]⟩
abbrev S168x768 : Shape := ⟨2, ![168, 768]⟩
abbrev S168x640 : Shape := ⟨2, ![168, 640]⟩
abbrev S2x256x256 : Shape := ⟨3, ![2, 256, 256]⟩
abbrev S2x8x256 : Shape := ⟨3, ![2, 8, 256]⟩
abbrev S256x40x320 : Shape := ⟨3, ![256, 40, 320]⟩
abbrev S1x256x256 : Shape := ⟨3, ![1, 256, 256]⟩
abbrev S1x8x256 : Shape := ⟨3, ![1, 8, 256]⟩
abbrev S256x12800 : Shape := ⟨2, ![256, 12800]⟩
abbrev S256x256 : Shape := ⟨2, ![256, 256]⟩
abbrev S256 : Shape := ⟨1, ![256]⟩
abbrev S8x256 : Shape := ⟨2, ![8, 256]⟩
abbrev S1x256 : Shape := ⟨2, ![1, 256]⟩
abbrev S8x128 : Shape := ⟨2, ![8, 128]⟩
abbrev S1x1x256 : Shape := ⟨3, ![1, 1, 256]⟩
abbrev S256x1 : Shape := ⟨2, ![256, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 45
  | .vmem => 18
  | .smem => 0
  | _ => 0

abbrev bufTy : (tb : Table) → Fin (tcTables nBuf tb) → BufTy
  | .hbm, ⟨0, _⟩ => ⟨S256x320x320, .f32⟩
  | .hbm, ⟨1, _⟩ => ⟨S168, .f32⟩
  | .hbm, ⟨2, _⟩ => ⟨S320, .i32⟩
  | .hbm, ⟨3, _⟩ => ⟨S320x1, .i32⟩
  | .hbm, ⟨4, _⟩ => ⟨S1x320, .i32⟩
  | .hbm, ⟨5, _⟩ => ⟨S320x320, .i32⟩
  | .hbm, ⟨6, _⟩ => ⟨S320x320, .i32⟩
  | .hbm, ⟨7, _⟩ => ⟨S320x320, .i32⟩
  | .hbm, ⟨8, _⟩ => ⟨S_, .i32⟩
  | .hbm, ⟨9, _⟩ => ⟨S320x320, .i32⟩
  | .hbm, ⟨10, _⟩ => ⟨S320x320, .i32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S320x320, .f32⟩
  | .hbm, ⟨19, _⟩ => ⟨S320x320, .f32⟩
  | .hbm, ⟨20, _⟩ => ⟨S320x320, .f32⟩
  | .hbm, ⟨21, _⟩ => ⟨S320x320, .f32⟩
  | .hbm, ⟨22, _⟩ => ⟨S320x320, .f32⟩
  | .hbm, ⟨23, _⟩ => ⟨S_, .f32⟩
  | .hbm, ⟨24, _⟩ => ⟨S7x320, .f32⟩
  | .hbm, ⟨25, _⟩ => ⟨S161x320, .f32⟩
  | .hbm, ⟨26, _⟩ => ⟨S161x320, .f32⟩
  | .hbm, ⟨27, _⟩ => ⟨S336x320, .f32⟩
  | .hbm, ⟨28, _⟩ => ⟨S_, .f32⟩
  | .hbm, ⟨29, _⟩ => ⟨S64x640, .f32⟩
  | .hbm, ⟨30, _⟩ => ⟨S320x640, .f32⟩
  | .hbm, ⟨31, _⟩ => ⟨S320x320, .f32⟩
  | .hbm, ⟨32, _⟩ => ⟨S320x640, .f32⟩
  | .hbm, ⟨33, _⟩ => ⟨S768x640, .f32⟩
  | .hbm, ⟨34, _⟩ => ⟨S168x1, .f32⟩
  | .hbm, ⟨35, _⟩ => ⟨S168x320, .f32⟩
  | .hbm, ⟨36, _⟩ => ⟨S336x320, .bf16⟩
  | .hbm, ⟨37, _⟩ => ⟨S256x320x320, .bf16⟩
  | .hbm, ⟨38, _⟩ => ⟨S2x168x640, .f32⟩
  | .hbm, ⟨39, _⟩ => ⟨S2x256x256, .f32⟩
  | .hbm, ⟨40, _⟩ => ⟨S2x8x256, .f32⟩
  | .hbm, ⟨41, _⟩ => ⟨S8x128, .f32⟩
  | .hbm, ⟨42, _⟩ => ⟨S1x1, .f32⟩
  | .hbm, ⟨43, _⟩ => ⟨S_, .f32⟩
  | .hbm, ⟨44, _⟩ => ⟨S_, .f32⟩
  | .local _ .vmem, ⟨0, _⟩ => ⟨S8x320x320, .bf16⟩
  | .local _ .vmem, ⟨1, _⟩ => ⟨S8x320x320, .bf16⟩
  | .local _ .vmem, ⟨2, _⟩ => ⟨S336x320, .bf16⟩
  | .local _ .vmem, ⟨3, _⟩ => ⟨S768x640, .f32⟩
  | .local _ .vmem, ⟨4, _⟩ => ⟨S1x168x640, .f32⟩
  | .local _ .vmem, ⟨5, _⟩ => ⟨S1x168x640, .f32⟩
  | .local _ .vmem, ⟨6, _⟩ => ⟨S8x168x768, .f32⟩
  | .local _ .vmem, ⟨7, _⟩ => ⟨S256x40x320, .bf16⟩
  | .local _ .vmem, ⟨8, _⟩ => ⟨S256x40x320, .bf16⟩
  | .local _ .vmem, ⟨9, _⟩ => ⟨S1x256x256, .f32⟩
  | .local _ .vmem, ⟨10, _⟩ => ⟨S1x256x256, .f32⟩
  | .local _ .vmem, ⟨11, _⟩ => ⟨S1x8x256, .f32⟩
  | .local _ .vmem, ⟨12, _⟩ => ⟨S1x8x256, .f32⟩
  | .local _ .vmem, ⟨13, _⟩ => ⟨S2x256x256, .f32⟩
  | .local _ .vmem, ⟨14, _⟩ => ⟨S2x8x256, .f32⟩
  | .local _ .vmem, ⟨15, _⟩ => ⟨S2x168x640, .f32⟩
  | .local _ .vmem, ⟨16, _⟩ => ⟨S168x320, .f32⟩
  | .local _ .vmem, ⟨17, _⟩ => ⟨S8x128, .f32⟩
  | _, _ => ⟨S256x320x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c0_i32_135 : BitVec 32 := 0#32
  let v162 : BitVec 1 := Scalar.cmpi .eq arg1 c0_i32_135
  let v163 : BitVec 32 := Scalar.extui v162
  let c0_i32_136 : BitVec 32 := 0#32
  let v164 : BitVec 1 := Scalar.cmpi .ne v163 c0_i32_136
  v164

def k0_cond3 (i : grid0.Coords) : BitVec 1 :=
  let arg1 : BitVec 32 := BitVec.ofNat 32 (i 1).val
  let c0_i32_137 : BitVec 32 := 0#32
  let v165 : BitVec 1 := Scalar.cmpi .sgt arg1 c0_i32_137
  let v166 : BitVec 32 := Scalar.extui v165
  let c0_i32_138 : BitVec 32 := 0#32
  let v167 : BitVec 1 := Scalar.cmpi .ne v166 c0_i32_138
  v167

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x320x320 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S336x320 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x168x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 4], ![false, false]⟩

def k1_cond1 (i : grid1.Coords) : BitVec 1 :=
  let arg1 : BitVec 32 := BitVec.ofNat 32 (i 1).val
  let c0_i32_4 : BitVec 32 := 0#32
  let v14 : BitVec 1 := Scalar.cmpi .eq arg1 c0_i32_4
  let v15 : BitVec 32 := Scalar.extui v14
  let c0_i32_5 : BitVec 32 := 0#32
  let v16 : BitVec 1 := Scalar.cmpi .ne v15 c0_i32_5
  v16

def k1_cond2 (i : grid1.Coords) : BitVec 1 :=
  let arg1 : BitVec 32 := BitVec.ofNat 32 (i 1).val
  let c0_i32_6 : BitVec 32 := 0#32
  let v17 : BitVec 1 := Scalar.cmpi .sgt arg1 c0_i32_6
  let v18 : BitVec 32 := Scalar.extui v17
  let c0_i32_7 : BitVec 32 := 0#32
  let v19 : BitVec 1 := Scalar.cmpi .ne v18 c0_i32_7
  v19

def cc1_transform_0 (i : grid1.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S256x40x320 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := .none

abbrev stage2_0 : Fin 1 → Memref sig .tc .vmem S2x256x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2x8x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S2x168x640 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S168x320 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S8x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
-- ==== ReferenceIdeal.lean ====
abbrev S256x320x320 : Shape := ⟨3, ![256, 320, 320]⟩
abbrev S256x102400 : Shape := ⟨2, ![256, 102400]⟩
abbrev S_ : Shape := ⟨0, ![]⟩
abbrev S256 : Shape := ⟨1, ![256]⟩
abbrev S102400x256 : Shape := ⟨2, ![102400, 256]⟩
abbrev S256x256 : Shape := ⟨2, ![256, 256]⟩
abbrev S256x1 : Shape := ⟨2, ![256, 1]⟩
abbrev S1x256 : Shape := ⟨2, ![1, 256]⟩
abbrev S320 : Shape := ⟨1, ![320]⟩
abbrev S320x1 : Shape := ⟨2, ![320, 1]⟩
abbrev S1x320 : Shape := ⟨2, ![1, 320]⟩
abbrev S320x320 : Shape := ⟨2, ![320, 320]⟩

abbrev nBuf : Space → Nat
  | .hbm => 161
  | .vmem => 0
  | .smem => 0
  | _ => 0

abbrev hbmTy0_0 (i : Nat) : BufTy := match i % 128 with
  | 0 => ⟨S256x320x320, .f32⟩
  | 1 => ⟨S256x102400, .f32⟩
  | 2 => ⟨S256x102400, .f32⟩
  | 3 => ⟨S_, .f32⟩
  | 4 => ⟨S256, .f32⟩
  | 5 => ⟨S102400x256, .f32⟩
  | 6 => ⟨S256x256, .f32⟩
  | 7 => ⟨S256x1, .f32⟩
  | 8 => ⟨S1x256, .f32⟩
  | 9 => ⟨S256x256, .f32⟩
  | 10 => ⟨S256x256, .f32⟩
  | 11 => ⟨S256x256, .f32⟩
  | 12 => ⟨S_, .f32⟩
  | 13 => ⟨S256x256, .f32⟩
  | 14 => ⟨S256x256, .f32⟩
  | 15 => ⟨S256x256, .f32⟩
  | 16 => ⟨S_, .f32⟩
  | 17 => ⟨S256, .f32⟩
  | 18 => ⟨S256x1, .f32⟩
  | 19 => ⟨S1x256, .f32⟩
  | 20 => ⟨S256x256, .f32⟩
  | 21 => ⟨S256x256, .f32⟩
  | 22 => ⟨S256x256, .f32⟩
  | 23 => ⟨S_, .f32⟩
  | 24 => ⟨S256x256, .f32⟩
  | 25 => ⟨S256x256, .f32⟩
  | 26 => ⟨S256x256, .f32⟩
  | 27 => ⟨S_, .f32⟩
  | 28 => ⟨S256x256, .f32⟩
  | 29 => ⟨S256x256, .f32⟩
  | 30 => ⟨S_, .f32⟩
  | 31 => ⟨S256x256, .f32⟩
  | 32 => ⟨S256x256, .f32⟩
  | 33 => ⟨S256x256, .f32⟩
  | 34 => ⟨S256, .i32⟩
  | 35 => ⟨S1x256, .i32⟩
  | 36 => ⟨S256x1, .i32⟩
  | 37 => ⟨S256x256, .i32⟩
  | 38 => ⟨S256x256, .i32⟩
  | 39 => ⟨S256x256, .i1⟩
  | 40 => ⟨S256x1, .i32⟩
  | 41 => ⟨S_, .i32⟩
  | 42 => ⟨S_, .i32⟩
  | 43 => ⟨S256x1, .i32⟩
  | 44 => ⟨S256x1, .i32⟩
  | 45 => ⟨S256x1, .i32⟩
  | 46 => ⟨S_, .i32⟩
  | 47 => ⟨S256x1, .i32⟩
  | 48 => ⟨S256x1, .i1⟩
  | 49 => ⟨S256x1, .i32⟩
  | 50 => ⟨S256x1, .i32⟩
  | 51 => ⟨S_, .i32⟩
  | 52 => ⟨S256x1, .i32⟩
  | 53 => ⟨S256x1, .i1⟩
  | 54 => ⟨S256x1, .i1⟩
  | 55 => ⟨S_, .i32⟩
  | 56 => ⟨S256x1, .i32⟩
  | 57 => ⟨S256x1, .i32⟩
  | 58 => ⟨S256x1, .i32⟩
  | 59 => ⟨S1x256, .i32⟩
  | 60 => ⟨S_, .i32⟩
  | 61 => ⟨S_, .i32⟩
  | 62 => ⟨S1x256, .i32⟩
  | 63 => ⟨S1x256, .i32⟩
  | 64 => ⟨S1x256, .i32⟩
  | 65 => ⟨S_, .i32⟩
  | 66 => ⟨S1x256, .i32⟩
  | 67 => ⟨S1x256, .i1⟩
  | 68 => ⟨S1x256, .i32⟩
  | 69 => ⟨S1x256, .i32⟩
  | 70 => ⟨S_, .i32⟩
  | 71 => ⟨S1x256, .i32⟩
  | 72 => ⟨S1x256, .i1⟩
  | 73 => ⟨S1x256, .i1⟩
  | 74 => ⟨S_, .i32⟩
  | 75 => ⟨S1x256, .i32⟩
  | 76 => ⟨S1x256, .i32⟩
  | 77 => ⟨S1x256, .i32⟩
  | 78 => ⟨S256x256, .i32⟩
  | 79 => ⟨S256x256, .i32⟩
  | 80 => ⟨S256x256, .i1⟩
  | 81 => ⟨S256x256, .i1⟩
  | 82 => ⟨S256x256, .f32⟩
  | 83 => ⟨S_, .f32⟩
  | 84 => ⟨S_, .f32⟩
  | 85 => ⟨S256x256, .f32⟩
  | 86 => ⟨S256x256, .f32⟩
  | 87 => ⟨S256x256, .i1⟩
  | 88 => ⟨S256x256, .i1⟩
  | 89 => ⟨S256x256, .f32⟩
  | 90 => ⟨S_, .f32⟩
  | 91 => ⟨S_, .f32⟩
  | 92 => ⟨S256x256, .f32⟩
  | 93 => ⟨S256x256, .f32⟩
  | 94 => ⟨S_, .f32⟩
  | 95 => ⟨S_, .f32⟩
  | 96 => ⟨S_, .f32⟩
  | 97 => ⟨S_, .f32⟩
  | 98 => ⟨S_, .f32⟩
  | 99 => ⟨S256x256, .f32⟩
  | 100 => ⟨S256x256, .f32⟩
  | 101 => ⟨S256x256, .f32⟩
  | 102 => ⟨S256x256, .f32⟩
  | 103 => ⟨S_, .f32⟩
  | 104 => ⟨S256, .f32⟩
  | 105 => ⟨S256, .f32⟩
  | 106 => ⟨S256, .f32⟩
  | 107 => ⟨S_, .f32⟩
  | 108 => ⟨S_, .f32⟩
  | 109 => ⟨S320, .i32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S320x1, .i32⟩
  | 118 => ⟨S1x320, .i32⟩
  | 119 => ⟨S320x320, .i32⟩
  | 120 => ⟨S320x320, .i32⟩
  | 121 => ⟨S320x320, .i32⟩
  | 122 => ⟨S320x320, .f32⟩
  | 123 => ⟨S_, .f32⟩
  | 124 => ⟨S320x320, .f32⟩
  | 125 => ⟨S320x320, .f32⟩
  | 126 => ⟨S320x320, .f32⟩
  | 127 => ⟨S320x320, .f32⟩
  | _ => ⟨S256x320x320, .f32⟩

abbrev hbmTy0_1 (i : Nat) : BufTy := match i % 128 with
  | 0 => ⟨S320x320, .f32⟩
  | 1 => ⟨S256x320x320, .f32⟩
  | 2 => ⟨S256x320x320, .f32⟩
  | 3 => ⟨S256x320x320, .f32⟩
  | 4 => ⟨S256x320x320, .f32⟩
  | 5 => ⟨S256x320x320, .f32⟩
  | 6 => ⟨S256x320x320, .f32⟩
  | 7 => ⟨S256x320x320, .f32⟩
  | 8 => ⟨S256x320x320, .f32⟩
  | 9 => ⟨S256x320x320, .f32⟩
  | 10 => ⟨S256x320x320, .f32⟩
  | 11 => ⟨S256x320x320, .f32⟩
  | 12 => ⟨S256x320x320, .f32⟩
  | 13 => ⟨S256x320x320, .f32⟩
  | 14 => ⟨S_, .f32⟩
  | 15 => ⟨S320x320, .f32⟩
  | 16 => ⟨S_, .f32⟩
  | 17 => ⟨S320x320, .f32⟩
  | 18 => ⟨S320x320, .f32⟩
  | 19 => ⟨S320x320, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | _ => ⟨S256x320x320, .f32⟩

abbrev hbmTy (i : Nat) : BufTy := match i / 128 with
  | 0 => hbmTy0_0 i
  | 1 => hbmTy0_1 i
  | _ => ⟨S256x320x320, .f32⟩

abbrev bufTy : (tb : Table) → Fin (tcTables nBuf tb) → BufTy
  | .hbm, ⟨i, _⟩ => hbmTy i
  | _, _ => ⟨S256x320x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_2 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_3 : Ref sig .tc := ⟨.hbm, 27, rfl⟩
abbrev main_v22 : Ref sig .tc := ⟨.hbm, 28, rfl⟩
abbrev main_v23 : Ref sig .tc := ⟨.hbm, 29, rfl⟩
abbrev main_cst_4 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_v8 : Ref sig .tc := ⟨.hbm, 50, rfl⟩
abbrev main_call0_c : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_0 : Ref sig .tc := ⟨.hbm, 55, rfl⟩
abbrev main_call0_v12 : Ref sig .tc := ⟨.hbm, 56, rfl⟩
abbrev main_call0_v13 : Ref sig .tc := ⟨.hbm, 57, rfl⟩
abbrev main_v34 : Ref sig .tc := ⟨.hbm, 58, rfl⟩
abbrev main_v35 : Ref sig .tc := ⟨.hbm, 59, rfl⟩
abbrev main_c_5 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_c : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_0 : Ref sig .tc := ⟨.hbm, 74, rfl⟩
abbrev main_call1_v12 : Ref sig .tc := ⟨.hbm, 75, rfl⟩
abbrev main_call1_v13 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_6 : Ref sig .tc := ⟨.hbm, 83, rfl⟩
abbrev main_call2_v0 : Ref sig .tc := ⟨.hbm, 84, rfl⟩
abbrev main_call2_v1 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_7 : Ref sig .tc := ⟨.hbm, 90, rfl⟩
abbrev main_call3_v0 : Ref sig .tc := ⟨.hbm, 91, rfl⟩
abbrev main_call3_v1 : Ref sig .tc := ⟨.hbm, 92, rfl⟩
abbrev main_v46 : Ref sig .tc := ⟨.hbm, 93, rfl⟩
abbrev main_cst_8 : Ref sig .tc := ⟨.hbm, 94, rfl⟩
abbrev main_v47 : Ref sig .tc := ⟨.hbm, 95, rfl⟩
abbrev main_cst_9 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_cst_10 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_cst_11 : Ref sig .tc := ⟨.hbm, 107, rfl⟩
abbrev main_v57 : Ref sig .tc := ⟨.hbm, 108, rfl⟩
abbrev main_v58 : Ref sig .tc := ⟨.hbm, 109, rfl⟩
abbrev main_cst_12 : Ref sig .tc := ⟨.hbm, 110, rfl⟩
abbrev main_cst_13 : Ref sig .tc := ⟨.hbm, 111, rfl⟩
abbrev main_v59 : Ref sig .tc := ⟨.hbm, 112, rfl⟩
abbrev main_cst_14 : Ref sig .tc := ⟨.hbm, 113, rfl⟩
abbrev main_v60 : Ref sig .tc := ⟨.hbm, 114, rfl⟩
abbrev main_cst_15 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_cst_16 : Ref sig .tc := ⟨.hbm, 142, rfl⟩
abbrev main_v87 : Ref sig .tc := ⟨.hbm, 143, rfl⟩
abbrev main_cst_17 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_cst_18 : Ref sig .tc := ⟨.hbm, 148, rfl⟩
abbrev main_v91 : Ref sig .tc := ⟨.hbm, 149, rfl⟩
abbrev main_cst_19 : Ref sig .tc := ⟨.hbm, 150, rfl⟩
abbrev main_v92 : Ref sig .tc := ⟨.hbm, 151, rfl⟩
abbrev main_cst_20 : Ref sig .tc := ⟨.hbm, 152, rfl⟩
abbrev main_v93 : Ref sig .tc := ⟨.hbm, 153, rfl⟩
abbrev main_cst_21 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_cst_22 : Ref sig .tc := ⟨.hbm, 158, rfl⟩
abbrev main_v97 : Ref sig .tc := ⟨.hbm, 159, rfl⟩
abbrev main_v98 : Ref sig .tc := ⟨.hbm, 160, rfl⟩

abbrev nD : Nat := 1
abbrev τ : Topo := Topo.v7x

variable {F : FTy → Type} [FloatOps F]
-- ==== Proof.PsdRuns.lean ====
/- Region 0: the windows' blocks, the conditions of the body, its staging buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Pipeline.TableIdle
public import Idealize.ShloMosaic.Lib.Pipeline.Value
public import Idealize.ShloMosaic.Lib.Tactic
public import Idealize.ShloMosaic.Lib.Ring
public import Idealize.ShloMosaic.Lib.WordCmp

@[expose] public section

set_option maxRecDepth 16384

noncomputable section

namespace Cert.KernelIdeal.Psd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points ≡ 0 (mod 16) — by arithmetic of the point. -/
theorem hcond0_1 : ∀ t : Fin cfg0.N, cond0_1 (grid0.coords t) ↔ t.val % 16 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_1, k0_cond2, e0, e1]
    word_cmp
   : ∀ t : Fin grid0.N, cond0_1 (grid0.coords t) ↔ t.val % 16 = 0)

/-- The condition of the body's `scf.if` 2 (`k0_h3`), from the grid coordinates (the skeleton's scalar
    chain substituted). -/
abbrev cond0_2 (i : grid0.Coords) : Prop := k0_cond3 i = 1#1
/-- It holds at the points whose coordinates have 1 ≤ i1 — decided over the grid. -/
theorem hcond0_2 : ∀ t : Fin cfg0.N, cond0_2 (grid0.coords t) ↔ 1 ≤ t.val % 16 :=
  (by decide +kernel : ∀ t : Fin grid0.N, cond0_2 (grid0.coords t) ↔ 1 ≤ t.val % 16)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Whether output 3's buffer is FRESH at each position `1 ‥ N` — holds nothing the body stored since the region's entry or the
    last write-back (written back at the point before, or idle there and fresh before it) —, as a bitmask the classifier
    computed, bit `n` for position `n + 1`; position 0 is fresh. `freshTab0_3_step` checks it against the configuration's own
    step point by point and Lib/Pipeline/TableIdle.lean `Cfg.fresh_tab` makes it `Cfg.fresh` (`fresh0_3_eq`). -/
def freshTab0_3 : ℕ → Bool
  | 0 => true
  | n + 1 => (0x80008000 : ℕ).testBit n
theorem freshTab0_3_step : ∀ t : Fin cfg0.N,
    freshTab0_3 (t.val + 1) = ((cfg0.win 3).flush t || (cfg0.idle 3 (cfg0.grid.coords t) && freshTab0_3 t.val)) := by decide +kernel
theorem fresh0_3_eq (t : Fin cfg0.N) : cfg0.fresh 3 t.val = freshTab0_3 t.val :=
  Pipeline.Cfg.fresh_tab cfg0 3 freshTab0_3 rfl freshTab0_3_step t.val (Nat.le_of_lt t.isLt)
/-- At the points of case A the printed configuration (`Cfg.idle`) calls output 3 live: the case stores into it. -/
theorem liveAt0_3_A : ∀ t : Fin cfg0.N, cond0_0 (grid0.coords t) → cond0_1 (grid0.coords t) → ¬cond0_2 (grid0.coords t) → cfg0.idle 3 (grid0.coords t) = false := by decide +kernel
/-- At the points of case B the printed configuration (`Cfg.idle`) calls output 3 live: the case stores into it. -/
theorem liveAt0_3_B : ∀ t : Fin cfg0.N, ¬cond0_0 (grid0.coords t) → ¬cond0_1 (grid0.coords t) → cond0_2 (grid0.coords t) → cfg0.idle 3 (grid0.coords t) = false := by decide +kernel
/-- At the points of case B, which keeps output 3's prior contents (reads it before covering, or covers it in part), the
    window's buffer is not FRESH: something was stored into it since the region's entry or its last write-back, idle points
    between or not (Lib/Pipeline/TableIdle.lean `Cfg.fresh`, by the table `freshTab0_3`). -/
theorem notFresh0_3_B : ∀ t : Fin cfg0.N, ¬cond0_0 (grid0.coords t) → ¬cond0_1 (grid0.coords t) → cond0_2 (grid0.coords t) → cfg0.fresh 3 t.val = false := by
  intro t; rw [fresh0_3_eq t]; revert t; decide +kernel

/-! ## The kernel body on any staging memrefs: a subtype the run finds -/

/-- One staging buffer of output window 3, through which its contents are stated (`View.read_writes_of_cover`: the
    choice does not matter). -/
abbrev VO0_3 : View sig .tc .vmem S1x168x640 .f32 := (Memref.whole cc0_stg3_0 : Memref sig .tc .vmem S1x168x640 .f32).view
/-- Each window's current staging memref at point `t`, spelled as the pipeline passes it (`bodyAt0`), and its wholeness. -/
abbrev ms0_0 (t : Fin cfg0.N) : Memref sig .tc .vmem S8x320x320 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S336x320 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x640 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x168x640 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S8x168x768 .f32 := Memref.whole cc0_scratch0
/-- The scratch `arg6` the kernel carries between points, as a view: what it holds is stated through it. -/
abbrev VS0_0 : View sig .tc .vmem S8x168x768 .f32 := scM0_0.view

/-- The scoped buffers of the later calls, each at some contents: they ride through this call untouched. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f))

/-- What the call is entered with beside its windows: the scratch at some contents, the later calls' buffers, and the
    generator register. -/
theorem PhiA0_eq (c : Dev nD) :
    (Pipeline.ΦA spec0 c : sProp 𝕄)
      = iprop(iprop((∃ d, owns (c : Thread nD τ) scM0_0 fullShare d) ∗ others c) ∗ (∃ r, prngReg c r)) := by
  unfold Pipeline.ΦA others; rw [scopedRest0_eq]; simp only [scM0_0, owns_whole]; try rfl

end Cert.KernelIdeal.Psd

end
-- ==== Proof.PsdRunA.lean ====
/- Region 0: the body run in case A. -/
module

public import proofs.«01_k».proof.Proof.PsdRuns

@[expose] public section

set_option maxRecDepth 16384

noncomputable section

namespace Cert.KernelIdeal.Psd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken, `scf.if` 1 taken, `scf.if` 2 not taken: points 0, 16), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S8x320x320 .bf16) (harg2 : arg2.IsWhole) (arg3 : Memref sig .tc .vmem S336x320 .bf16) (harg3 : arg3.IsWhole) (arg4 : Memref sig .tc .vmem S768x640 .f32) (harg4 : arg4.IsWhole) (arg5 : Memref sig .tc .vmem S1x168x640 .f32) (harg5 : arg5.IsWhole) (arg6 : Memref sig .tc .vmem S8x168x768 .f32) (harg6 : arg6.IsWhole) (hc0 : cond0_0 i) (hc1 : cond0_1 i) (hc2 : ¬cond0_2 i)
    (x0 : Vec F S8x320x320 .bf16) (x1 : Vec F S336x320 .bf16) (x2 : Vec F S768x640 .f32) :
    Σ' (L3 : List (View.Piece (Elt F) S1x168x640 .f32)), { LS0 : List (View.Piece (Elt F) S8x168x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_psd_dft i arg2 harg2 arg3 harg3 arg4 harg4 arg5 harg5 arg6 harg6) K } := by
  refine ⟨?_, ?_, fun E K => ?run⟩
  case run =>
    simp only [cc0_psd_dft_eq_skeleton]; unfold cc0_psd_dft_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Psd

end
-- ==== Proof.PsdRunB.lean ====
/- Region 0: the body run in case B. -/
module

public import proofs.«01_k».proof.Proof.PsdRuns

@[expose] public section

set_option maxRecDepth 16384

noncomputable section

namespace Cert.KernelIdeal.Psd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken, `scf.if` 1 not taken, `scf.if` 2 taken: points 1, 2, … 31: 30 of 32), WITH the
    proof that on whole staging memrefs — the inputs' at their contents, the outputs it reads before covering (3) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S8x320x320 .bf16) (harg2 : arg2.IsWhole) (arg3 : Memref sig .tc .vmem S336x320 .bf16) (harg3 : arg3.IsWhole) (arg4 : Memref sig .tc .vmem S768x640 .f32) (harg4 : arg4.IsWhole) (arg5 : Memref sig .tc .vmem S1x168x640 .f32) (harg5 : arg5.IsWhole) (arg6 : Memref sig .tc .vmem S8x168x768 .f32) (harg6 : arg6.IsWhole) (hc0 : ¬cond0_0 i) (hc1 : ¬cond0_1 i) (hc2 : cond0_2 i)
    (x0 : Vec F S8x320x320 .bf16) (x1 : Vec F S336x320 .bf16) (x2 : Vec F S768x640 .f32) (xo3 : Vec F S1x168x640 .f32) (xs0 : Vec F S8x168x768 .f32) :
    Σ' (L3 : List (View.Piece (Elt F) S1x168x640 .f32)), { LS0 : List (View.Piece (Elt F) S8x168x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (arg6.view.loc (c : Thread nD τ) ↦[arg6.view.set]{fullShare} arg6.view.writes (Elt F) (harg6.unread xs0) LS0)) -∗ K ⟨⟩))
          ⊢ wp frame (wpE (defs₀ (F := F)) Variants.none c none) E (cc0_psd_dft i arg2 harg2 arg3 harg3 arg4 harg4 arg5 harg5 arg6 harg6) K } := by
  refine ⟨?_, ?_, fun E K => ?run⟩
  case run =>
    simp only [cc0_psd_dft_eq_skeleton]; unfold cc0_psd_dft_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexact HS0

end Cert.KernelIdeal.Psd

end
-- ==== Proof.PsdBody.lean ====
/- Region 0: what the outputs hold after each grid point, the proof data, and the body's obligation. -/
module

public import proofs.«01_k».proof.Proof.PsdRunA
public import proofs.«01_k».proof.Proof.PsdRunB

@[expose] public section

set_option maxRecDepth 16384

noncomputable section

namespace Cert.KernelIdeal.Psd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for output 3 tile its block (1 store of `S1x168x640`, checked by the kernel's evaluation: Lib/Ring.lean `Piece.tiledL`, linear in the pieces, through a loop's `@[irreducible]` trip theorem too), so they cover it. -/
theorem cover0_A_3 (c : Dev nD) (i : grid0.Coords) (arg2 : Memref sig .tc .vmem S8x320x320 .bf16) (harg2 : arg2.IsWhole) (arg3 : Memref sig .tc .vmem S336x320 .bf16) (harg3 : arg3.IsWhole) (arg4 : Memref sig .tc .vmem S768x640 .f32) (harg4 : arg4.IsWhole) (arg5 : Memref sig .tc .vmem S1x168x640 .f32) (harg5 : arg5.IsWhole) (arg6 : Memref sig .tc .vmem S8x168x768 .f32) (harg6 : arg6.IsWhole) (hc0 : cond0_0 i) (hc1 : cond0_1 i) (hc2 : ¬cond0_2 i)
    (x0 : Vec F S8x320x320 .bf16) (x1 : Vec F S336x320 .bf16) (x2 : Vec F S768x640 .f32) (y : S1x168x640.Idx) :
    ∃ pc ∈ (kernelRun0_A c i arg2 harg2 arg3 harg3 arg4 harg4 arg5 harg5 arg6 harg6 hc0 hc1 hc2 x0 x1 x2).1, y ∈ pc.1.set :=
  View.cover_of_tiledL (kernelRun0_A c i arg2 harg2 arg3 harg3 arg4 harg4 arg5 harg5 arg6 harg6 hc0 hc1 hc2 x0 x1 x2).1 S1x168x640.size (by sl_kernel_rfl) y

/-- What case A leaves in output 3's staging buffer: its pieces read back over junk. -/
def out0_A_3 (c : Dev nD) (i : grid0.Coords) (arg2 : Memref sig .tc .vmem S8x320x320 .bf16) (harg2 : arg2.IsWhole) (arg3 : Memref sig .tc .vmem S336x320 .bf16) (harg3 : arg3.IsWhole) (arg4 : Memref sig .tc .vmem S768x640 .f32) (harg4 : arg4.IsWhole) (arg5 : Memref sig .tc .vmem S1x168x640 .f32) (harg5 : arg5.IsWhole) (arg6 : Memref sig .tc .vmem S8x168x768 .f32) (harg6 : arg6.IsWhole) (hc0 : cond0_0 i) (hc1 : cond0_1 i) (hc2 : ¬cond0_2 i)
    (x0 : Vec F S8x320x320 .bf16) (x1 : Vec F S336x320 .bf16) (x2 : Vec F S768x640 .f32) : Vec F S1x168x640 .f32 :=
  VO0_3.read (Elt F) (VO0_3.writes (Elt F) VO0_3.junk (kernelRun0_A c i arg2 harg2 arg3 harg3 arg4 harg4 arg5 harg5 arg6 harg6 hc0 hc1 hc2 x0 x1 x2).1)

/-- Case A's pieces for scratch `arg6`, which the kernel carries between points, cover it: one of them a store of the WHOLE buffer (Lib/Ring.lean `sl_whole_mem`). -/
theorem scover0_A_0 (c : Dev nD) (i : grid0.Coords) (arg2 : Memref sig .tc .vmem S8x320x320 .bf16) (harg2 : arg2.IsWhole) (arg3 : Memref sig .tc .vmem S336x320 .bf16) (harg3 : arg3.IsWhole) (arg4 : Memref sig .tc .vmem S768x640 .f32) (harg4 : arg4.IsWhole) (arg5 : Memref sig .tc .vmem S1x168x640 .f32) (harg5 : arg5.IsWhole) (arg6 : Memref sig .tc .vmem S8x168x768 .f32) (harg6 : arg6.IsWhole) (hc0 : cond0_0 i) (hc1 : cond0_1 i) (hc2 : ¬cond0_2 i)
    (x0 : Vec F S8x320x320 .bf16) (x1 : Vec F S336x320 .bf16) (x2 : Vec F S768x640 .f32) (y : S8x168x768.Idx) :
    ∃ pc ∈ (kernelRun0_A c i arg2 harg2 arg3 harg3 arg4 harg4 arg5 harg5 arg6 harg6 hc0 hc1 hc2 x0 x1 x2).2.1, y ∈ pc.1.set :=
  View.cover_of_wholeMem (kernelRun0_A c i arg2 harg2 arg3 harg3 arg4 harg4 arg5 harg5 arg6 harg6 hc0 hc1 hc2 x0 x1 x2).2.1 (by sl_whole_mem) y

/-- What case A leaves in scratch `arg6`: its pieces read back over junk. -/
def sout0_A_0 (c : Dev nD) (i : grid0.Coords) (arg2 : Memref sig .tc .vmem S8x320x320 .bf16) (harg2 : arg2.IsWhole) (arg3 : Memref sig .tc .vmem S336x320 .bf16) (harg3 : arg3.IsWhole) (arg4 : Memref sig .tc .vmem S768x640 .f32) (harg4 : arg4.IsWhole) (arg5 : Memref sig .tc .vmem S1x168x640 .f32) (harg5 : arg5.IsWhole) (arg6 : Memref sig .tc .vmem S8x168x768 .f32) (harg6 : arg6.IsWhole) (hc0 : cond0_0 i) (hc1 : cond0_1 i) (hc2 : ¬cond0_2 i)
    (x0 : Vec F S8x320x320 .bf16) (x1 : Vec F S336x320 .bf16) (x2 : Vec F S768x640 .f32) : Vec F S8x168x768 .f32 :=
  VS0_0.read (Elt F) (VS0_0.writes (Elt F) VS0_0.junk (kernelRun0_A c i arg2 harg2 arg3 harg3 arg4 harg4 arg5 harg5 arg6 harg6 hc0 hc1 hc2 x0 x1 x2).2.1)

/-- Case B's pieces for output 3 tile its block (1 store of `S1x168x640`, checked by the kernel's evaluation: Lib/Ring.lean `Piece.tiledL`, linear in the pieces, through a loop's `@[irreducible]` trip theorem too), so they cover it. -/
theorem cover0_B_3 (c : Dev nD) (i : grid0.Coords) (arg2 : Memref sig .tc .vmem S8x320x320 .bf16) (harg2 : arg2.IsWhole) (arg3 : Memref sig .tc .vmem S336x320 .bf16) (harg3 : arg3.IsWhole) (arg4 : Memref sig .tc .vmem S768x640 .f32) (harg4 : arg4.IsWhole) (arg5 : Memref sig .tc .vmem S1x168x640 .f32) (harg5 : arg5.IsWhole) (arg6 : Memref sig .tc .vmem S8x168x768 .f32) (harg6 : arg6.IsWhole) (hc0 : ¬cond0_0 i) (hc1 : ¬cond0_1 i) (hc2 : cond0_2 i)
    (x0 : Vec F S8x320x320 .bf16) (x1 : Vec F S336x320 .bf16) (x2 : Vec F S768x640 .f32) (xo3 : Vec F S1x168x640 .f32) (xs0 : Vec F S8x168x768 .f32) (y : S1x168x640.Idx) :
    ∃ pc ∈ (kernelRun0_B c i arg2 harg2 arg3 harg3 arg4 harg4 arg5 harg5 arg6 harg6 hc0 hc1 hc2 x0 x1 x2 xo3 xs0).1, y ∈ pc.1.set :=
  View.cover_of_tiledL (kernelRun0_B c i arg2 harg2 arg3 harg3 arg4 harg4 arg5 harg5 arg6 harg6 hc0 hc1 hc2 x0 x1 x2 xo3 xs0).1 S1x168x640.size (by sl_kernel_rfl) y

/-- What case B leaves in output 3's staging buffer: its pieces read back over junk. -/
def out0_B_3 (c : Dev nD) (i : grid0.Coords) (arg2 : Memref sig .tc .vmem S8x320x320 .bf16) (harg2 : arg2.IsWhole) (arg3 : Memref sig .tc .vmem S336x320 .bf16) (harg3 : arg3.IsWhole) (arg4 : Memref sig .tc .vmem S768x640 .f32) (harg4 : arg4.IsWhole) (arg5 : Memref sig .tc .vmem S1x168x640 .f32) (harg5 : arg5.IsWhole) (arg6 : Memref sig .tc .vmem S8x168x768 .f32) (harg6 : arg6.IsWhole) (hc0 : ¬cond0_0 i) (hc1 : ¬cond0_1 i) (hc2 : cond0_2 i)
    (x0 : Vec F S8x320x320 .bf16) (x1 : Vec F S336x320 .bf16) (x2 : Vec F S768x640 .f32) (xo3 : Vec F S1x168x640 .f32) (xs0 : Vec F S8x168x768 .f32) : Vec F S1x168x640 .f32 :=
  VO0_3.read (Elt F) (VO0_3.writes (Elt F) VO0_3.junk (kernelRun0_B c i arg2 harg2 arg3 harg3 arg4 harg4 arg5 harg5 arg6 harg6 hc0 hc1 hc2 x0 x1 x2 xo3 xs0).1)

/-- What case B leaves in scratch `arg6`: its pieces (stores, a counted loop's segment) read back over what the point before left there, which it read first. -/
def sout0_B_0 (c : Dev nD) (i : grid0.Coords) (arg2 : Memref sig .tc .vmem S8x320x320 .bf16) (harg2 : arg2.IsWhole) (arg3 : Memref sig .tc .vmem S336x320 .bf16) (harg3 : arg3.IsWhole) (arg4 : Memref sig .tc .vmem S768x640 .f32) (harg4 : arg4.IsWhole) (arg5 : Memref sig .tc .vmem S1x168x640 .f32) (harg5 : arg5.IsWhole) (arg6 : Memref sig .tc .vmem S8x168x768 .f32) (harg6 : arg6.IsWhole) (hc0 : ¬cond0_0 i) (hc1 : ¬cond0_1 i) (hc2 : cond0_2 i)
    (x0 : Vec F S8x320x320 .bf16) (x1 : Vec F S336x320 .bf16) (x2 : Vec F S768x640 .f32) (xo3 : Vec F S1x168x640 .f32) (xs0 : Vec F S8x168x768 .f32) : Vec F S8x168x768 .f32 :=
  arg6.view.read (Elt F) (arg6.view.writes (Elt F) (harg6.unread xs0) (kernelRun0_B c i arg2 harg2 arg3 harg3 arg4 harg4 arg5 harg5 arg6 harg6 hc0 hc1 hc2 x0 x1 x2 xo3 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1x168x640 .f32 × Vec F S8x168x768 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk V c 0 ⟨0, hn⟩) (iblk V c 1 ⟨0, hn⟩) (iblk V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk V c 0 ⟨0, hn⟩) (iblk V c 1 ⟨0, hn⟩) (iblk V c 2 ⟨0, hn⟩))
  | n + 1, hn =>
    if h0 : (n + 1) % 16 = 0 then
      if h1 : (n + 1) % 16 = 0 then
        if h2 : 1 ≤ (n + 1) % 16 then
          False.elim (by have hN : n + 1 < 32 := lt_of_lt_of_eq hn (show cfg0.N = 32 from N_0); omega)
        else
          (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) ((hcond0_1 ⟨n + 1, hn⟩).mpr h1) (fun h => h2 ((hcond0_2 ⟨n + 1, hn⟩).mp h)) (iblk V c 0 ⟨n + 1, hn⟩) (iblk V c 1 ⟨n + 1, hn⟩) (iblk V c 2 ⟨n + 1, hn⟩))
      else
        False.elim (by have hN : n + 1 < 32 := lt_of_lt_of_eq hn (show cfg0.N = 32 from N_0); omega)
    else
      if h1 : (n + 1) % 16 = 0 then
        False.elim (by have hN : n + 1 < 32 := lt_of_lt_of_eq hn (show cfg0.N = 32 from N_0); omega)
      else
        if h2 : 1 ≤ (n + 1) % 16 then
          (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk V c 0 ⟨n + 1, hn⟩) (iblk V c 1 ⟨n + 1, hn⟩) (iblk V c 2 ⟨n + 1, hn⟩) (outsAt0 c n (Nat.lt_of_succ_lt hn)).1 (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk V c 0 ⟨n + 1, hn⟩) (iblk V c 1 ⟨n + 1, hn⟩) (iblk V c 2 ⟨n + 1, hn⟩) (outsAt0 c n (Nat.lt_of_succ_lt hn)).1 (outsAt0 c n (Nat.lt_of_succ_lt hn)).2)
        else
          False.elim (by have hN : n + 1 < 32 := lt_of_lt_of_eq hn (show cfg0.N = 32 from N_0); omega)

/-- `outsAt0` at a point of case A: that case's contents. -/
theorem outsAt0_A (c : Dev nD) (t : Fin cfg0.N) (h0 : t.val % 16 = 0) (h1 : t.val % 16 = 0) (h2 : ¬1 ≤ t.val % 16) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) ((hcond0_1 t).mpr h1) (fun h => h2 ((hcond0_2 t).mp h)) (iblk V c 0 t) (iblk V c 1 t) (iblk V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) ((hcond0_1 t).mpr h1) (fun h => h2 ((hcond0_2 t).mp h)) (iblk V c 0 t) (iblk V c 1 t) (iblk V c 2 t)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 16 = 0) (h1 : ¬t.val % 16 = 0) (h2 : 1 ≤ t.val % 16) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) ((hcond0_2 t).mpr h2) (iblk V c 0 t) (iblk V c 1 t) (iblk V c 2 t) (outsAt0 V c (t.val - 1) (Nat.lt_of_le_of_lt (Nat.sub_le _ _) t.isLt)).1 (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) ((hcond0_2 t).mpr h2) (iblk V c 0 t) (iblk V c 1 t) (iblk V c 2 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2) ∗ others c) ∗ (∃ r, prngReg c r)) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others c) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt0 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- The invariant at a point's start (the proof data at `t.castSucc`), restated at `t.val`. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = (outsAt0 V c t.val t.isLt).1 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d

/-- Output 3's contents CARRY through the points that leave it idle: at such a point, its buffer not fresh, the proof data's
    `after` is the point before's (the case there stores nothing into the window and its term says so; a case that stores
    into it is not idle there by `liveAt0_3_κ`) — the hypothesis of Lib/Pipeline/TableIdle.lean `Dat.before_out_traj`. -/
theorem hcarry0_3 (c : Dev nD) : ∀ (t : Fin cfg0.N) (_ : t.val ≠ 0), cfg0.idle 3 (grid0.coords t) = true → cfg0.fresh 3 t.val = false →
    (dat V c).after 3 t = (dat V c).after 3 ⟨t.val - 1, by omega⟩ := by
  intro t _ hi _
  have hN : t.val < 32 := lt_of_lt_of_eq t.isLt (show cfg0.N = 32 from N_0)
  rw [after0_3, after0_3]
  by_cases h0 : t.val % 16 = 0
  · by_cases h1 : t.val % 16 = 0
    · by_cases h2 : 1 ≤ t.val % 16
      · exfalso; omega
      · rw [liveAt0_3_A t ((hcond0_0 t).mpr h0) ((hcond0_1 t).mpr h1) (fun h => h2 ((hcond0_2 t).mp h))] at hi
        exact absurd hi Bool.false_ne_true
    · exfalso; omega
  · by_cases h1 : t.val % 16 = 0
    · exfalso; omega
    · by_cases h2 : 1 ≤ t.val % 16
      · rw [liveAt0_3_B t (fun h => h0 ((hcond0_0 t).mp h)) (fun h => h1 ((hcond0_1 t).mp h)) ((hcond0_2 t).mpr h2)] at hi
        exact absurd hi Bool.false_ne_true
      · exfalso; omega
/-- At a point of case B output 3's current staging buffer holds what the point before left: the buffer is not fresh
    there (`notFresh0_3_B`: stored into since the region's entry or the last write-back, carried through the points that
    leave it idle by `hcarry0_3`; Lib/Pipeline/TableIdle.lean `Dat.before_out_traj`). -/
theorem before0_3_B (c : Dev nD) (t : Fin cfg0.N) (h0 : ¬t.val % 16 = 0) (h1 : ¬t.val % 16 = 0) (h2 : 1 ≤ t.val % 16) (d) :
    (dat V c).before 3 t d = (outsAt0 V c (t.val - 1) (Nat.lt_of_le_of_lt (Nat.sub_le _ _) t.isLt)).1 := by
  rw [Dat.before_out_traj _ 3 rfl (fun _ _ => rfl) (hcarry0_3 V c) t.val t rfl d,
    if_neg (by rw [notFresh0_3_B t (fun h => h0 ((hcond0_0 t).mp h)) (fun h => h1 ((hcond0_1 t).mp h)) ((hcond0_2 t).mpr h2)]; exact Bool.false_ne_true)]
  dsimp only [dat]

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  by_cases h0 : t.val % 16 = 0
  · by_cases h1 : t.val % 16 = 0
    · by_cases h2 : 1 ≤ t.val % 16
      · exfalso; omega
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1 t], after0_1]
        rw [show (dat V c).leavesExact 2 t = owns (c : Thread nD τ) (ms0_2 t) fullShare ((dat V c).after 2 t) from by
      unfold Dat.leavesExact; rw [liveAt0_2 t], after0_2]
        rw [show (dat V c).leavesExact 3 t = owns (c : Thread nD τ) (ms0_3 t) fullShare ((dat V c).after 3 t) from by
      unfold Dat.leavesExact; rw [liveAt0_3_A t ((hcond0_0 t).mpr h0) ((hcond0_1 t).mpr h1) (fun h => h2 ((hcond0_2 t).mp h))], after0_3]
        by_cases hz : t.val = 0
        · rw [PhiS_castSucc V c t, PhiS_zero V c _ _ hz, PhiA0_eq]
          rw [outsAt0_A V c t h0 h1 h2]
          unfold out0_A_3 sout0_A_0; (try dsimp only)
          iintro ⟨⟨⟨HS0, Hoth⟩, Hg⟩, Ho, ⟨%d0, H0⟩, ⟨%d1, H1⟩, ⟨%d2, H2⟩, ⟨%d3, H3⟩⟩
          iapply ((kernelRun0_A c (grid0.coords t) _ _ _ _ _ _ _ _ _ _ ((hcond0_0 t).mpr h0) ((hcond0_1 t).mpr h1) (fun h => h2 ((hcond0_2 t).mp h)) (iblk V c 0 t) (iblk V c 1 t) (iblk V c 2 t)).2.2 Set.univ _)
          isplitl [H0]; · iexact H0
          isplitl [H1]; · iexact H1
          isplitl [H2]; · iexact H2
          isplitl [H3]; · iexists _; iexact H3
          isplitl [HS0]; · iexact HS0
          iintro ⟨H0, H1, H2, ⟨%e3, H3⟩, ⟨%es0, HS0⟩⟩
          isplitl [HS0 Hoth Hg]
          · isplitl [HS0 Hoth]
            · isplitr [Hoth]; swap; · iexact Hoth
              unfold owns; iexists _; isplitr
              swap; · iexact HS0
              ipureintro; exact View.read_writes_of_cover _ _ _ _ _ (scover0_A_0 c _ _ _ _ _ _ _ _ _ _ _ _ _ _ _ _ _)
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover0_A_3 c _ _ _ _ _ _ _ _ _ _ _ _ _ _ _ _ _)
        · rw [PhiS_castSucc V c t, PhiS_pos V c _ _ hz]
          rw [outsAt0_A V c t h0 h1 h2]
          unfold out0_A_3 sout0_A_0; (try dsimp only)
          iintro ⟨⟨⟨HS0, Hoth⟩, Hg⟩, Ho, ⟨%d0, H0⟩, ⟨%d1, H1⟩, ⟨%d2, H2⟩, ⟨%d3, H3⟩⟩
          iapply ((kernelRun0_A c (grid0.coords t) _ _ _ _ _ _ _ _ _ _ ((hcond0_0 t).mpr h0) ((hcond0_1 t).mpr h1) (fun h => h2 ((hcond0_2 t).mp h)) (iblk V c 0 t) (iblk V c 1 t) (iblk V c 2 t)).2.2 Set.univ _)
          isplitl [H0]; · iexact H0
          isplitl [H1]; · iexact H1
          isplitl [H2]; · iexact H2
          isplitl [H3]; · iexists _; iexact H3
          isplitl [HS0]; · iexists _; iexact HS0
          iintro ⟨H0, H1, H2, ⟨%e3, H3⟩, ⟨%es0, HS0⟩⟩
          isplitl [HS0 Hoth Hg]
          · isplitl [HS0 Hoth]
            · isplitr [Hoth]; swap; · iexact Hoth
              unfold owns; iexists _; isplitr
              swap; · iexact HS0
              ipureintro; exact View.read_writes_of_cover _ _ _ _ _ (scover0_A_0 c _ _ _ _ _ _ _ _ _ _ _ _ _ _ _ _ _)
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover0_A_3 c _ _ _ _ _ _ _ _ _ _ _ _ _ _ _ _ _)
    · exfalso; omega
  · by_cases h1 : t.val % 16 = 0
    · exfalso; omega
    · by_cases h2 : 1 ≤ t.val % 16
      · rw [show (dat V c).leavesExact 0 t = owns (c : Thread nD τ) (ms0_0 t) fullShare ((dat V c).after 0 t) from by
      unfold Dat.leavesExact; rw [liveAt0_0 t], after0_0]
        rw [show (dat V c).leavesExact 1 t = owns (c : Thread nD τ) (ms0_1 t) fullShare ((dat V c).after 1 t) from by
      unfold Dat.leavesExact; rw [liveAt0_1 t], after0_1]
        rw [show (dat V c).leavesExact 2 t = owns (c : Thread nD τ) (ms0_2 t) fullShare ((dat V c).after 2 t) from by
      unfold Dat.leavesExact; rw [liveAt0_2 t], after0_2]
        rw [show (dat V c).leavesExact 3 t = owns (c : Thread nD τ) (ms0_3 t) fullShare ((dat V c).after 3 t) from by
      unfold Dat.leavesExact; rw [liveAt0_3_B t (fun h => h0 ((hcond0_0 t).mp h)) (fun h => h1 ((hcond0_1 t).mp h)) ((hcond0_2 t).mpr h2)], after0_3]
        by_cases hz : t.val = 0
        · exfalso; have hN : t.val < 32 := lt_of_lt_of_eq t.isLt (show cfg0.N = 32 from N_0); omega
        · rw [PhiS_castSucc V c t, PhiS_pos V c _ _ hz]
          rw [outsAt0_B V c t h0 h1 h2]
          simp only [before0_3_B V c t h0 h1 h2]
          unfold out0_B_3 sout0_B_0; (try dsimp only)
          iintro ⟨⟨⟨HS0, Hoth⟩, Hg⟩, Ho, ⟨%d0, H0⟩, ⟨%d1, H1⟩, ⟨%d2, H2⟩, ⟨%d3, H3⟩⟩
          iapply ((kernelRun0_B c (grid0.coords t) _ _ _ _ _ _ _ _ _ _ (fun h => h0 ((hcond0_0 t).mp h)) (fun h => h1 ((hcond0_1 t).mp h)) ((hcond0_2 t).mpr h2) (iblk V c 0 t) (iblk V c 1 t) (iblk V c 2 t) _ _).2.2 Set.univ _)
          isplitl [H0]; · iexact H0
          isplitl [H1]; · iexact H1
          isplitl [H2]; · iexact H2
          isplitl [H3]; · iexact H3
          isplitl [HS0]; · iexact HS0
          iintro ⟨H0, H1, H2, ⟨%e3, H3⟩, HS0⟩
          isplitl [HS0 Hoth Hg]
          · isplitl [HS0 Hoth]
            · isplitr [Hoth]; swap; · iexact Hoth
              unfold owns; iexists _; isplitr
              swap; · iexact HS0
              ipureintro; rfl
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover0_B_3 c _ _ _ _ _ _ _ _ _ _ _ _ _ _ _ _ _ _ _)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨⟨HS0, Hoth⟩, Hg⟩
  isplitl [HS0 Hoth]
  · isplitl [HS0]; · iexists _; iexact HS0
    iexact Hoth
  iexact Hg

/-- The same after the last point. -/
theorem hout (c : Dev nD) : (dat V c).Φ (Fin.last cfg0.N) ⊢ Pipeline.ΦA spec0 c :=
  Phi_out V c _ (by rw [Fin.val_last]; have : cfg0.N = 32 := N_0; omega)

end Cert.KernelIdeal.Psd

end
-- ==== Proof.GramRuns.lean ====
/- Region 1: the windows' blocks, the conditions of the body, its staging buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Pipeline.TableIdle
public import Idealize.ShloMosaic.Lib.Pipeline.Value
public import Idealize.ShloMosaic.Lib.Tactic
public import Idealize.ShloMosaic.Lib.Ring
public import Idealize.ShloMosaic.Lib.WordCmp

@[expose] public section

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond0_0 (i : grid1.Coords) : Prop := k1_cond1 i = 1#1
/-- It holds at the points ≡ 0 (mod 4) — by arithmetic of the point. -/
theorem hcond0_0 : ∀ t : Fin cfg1.N, cond0_0 (grid1.coords t) ↔ t.val % 4 = 0 :=
  (fun t => by
    have ht : t.val < 8 := Nat.lt_of_lt_of_eq t.isLt N_1
    have e0 : (grid1.coords t 0).val = t.val / 4 % 2 := Pipeline.Grid.coords_val t 0 (by decide) rfl
    have e1 : (grid1.coords t 1).val = t.val / 1 % 4 := Pipeline.Grid.coords_val t 1 (by decide) rfl
    simp only [cond0_0, k1_cond1, e0, e1]
    word_cmp
   : ∀ t : Fin grid1.N, cond0_0 (grid1.coords t) ↔ t.val % 4 = 0)

/-- The condition of the body's `scf.if` 1 (`k1_h2`), from the grid coordinates (the skeleton's scalar
    chain substituted). -/
abbrev cond0_1 (i : grid1.Coords) : Prop := k1_cond2 i = 1#1
/-- It holds at the points whose coordinates have 1 ≤ i1 — decided over the grid. -/
theorem hcond0_1 : ∀ t : Fin cfg1.N, cond0_1 (grid1.coords t) ↔ 1 ≤ t.val % 4 :=
  (by decide +kernel : ∀ t : Fin grid1.N, cond0_1 (grid1.coords t) ↔ 1 ≤ t.val % 4)

/-! ## Where the windows are idle (the printed configuration's table `Cfg.idle`) -/

/-- Window 0 is never idle (an input). -/
theorem liveAt0_0 : ∀ t : Fin cfg1.N, cfg1.idle 0 (grid1.coords t) = false := fun _ => rfl
/-- Whether output 1's buffer is FRESH at each position `1 ‥ N` — holds nothing the body stored since the region's entry or the
    last write-back (written back at the point before, or idle there and fresh before it) —, as a bitmask the classifier
    computed, bit `n` for position `n + 1`; position 0 is fresh. `freshTab0_1_step` checks it against the configuration's own
    step point by point and Lib/Pipeline/TableIdle.lean `Cfg.fresh_tab` makes it `Cfg.fresh` (`fresh0_1_eq`). -/
def freshTab0_1 : ℕ → Bool
  | 0 => true
  | n + 1 => (0x88 : ℕ).testBit n
theorem freshTab0_1_step : ∀ t : Fin cfg1.N,
    freshTab0_1 (t.val + 1) = ((cfg1.win 1).flush t || (cfg1.idle 1 (cfg1.grid.coords t) && freshTab0_1 t.val)) := by decide +kernel
theorem fresh0_1_eq (t : Fin cfg1.N) : cfg1.fresh 1 t.val = freshTab0_1 t.val :=
  Pipeline.Cfg.fresh_tab cfg1 1 freshTab0_1 rfl freshTab0_1_step t.val (Nat.le_of_lt t.isLt)
/-- At the points of case A the printed configuration (`Cfg.idle`) calls output 1 live: the case stores into it. -/
theorem liveAt0_1_A : ∀ t : Fin cfg1.N, cond0_0 (grid1.coords t) → ¬cond0_1 (grid1.coords t) → cfg1.idle 1 (grid1.coords t) = false := by decide +kernel
/-- At the points of case B the printed configuration (`Cfg.idle`) calls output 1 live: the case stores into it. -/
theorem liveAt0_1_B : ∀ t : Fin cfg1.N, ¬cond0_0 (grid1.coords t) → cond0_1 (grid1.coords t) → cfg1.idle 1 (grid1.coords t) = false := by decide +kernel
/-- At the points of case B, which keeps output 1's prior contents (reads it before covering, or covers it in part), the
    window's buffer is not FRESH: something was stored into it since the region's entry or its last write-back, idle points
    between or not (Lib/Pipeline/TableIdle.lean `Cfg.fresh`, by the table `freshTab0_1`). -/
theorem notFresh0_1_B : ∀ t : Fin cfg1.N, ¬cond0_0 (grid1.coords t) → cond0_1 (grid1.coords t) → cfg1.fresh 1 t.val = false := by
  intro t; rw [fresh0_1_eq t]; revert t; decide +kernel
/-- Whether output 2's buffer is FRESH at each position `1 ‥ N` — holds nothing the body stored since the region's entry or the
    last write-back (written back at the point before, or idle there and fresh before it) —, as a bitmask the classifier
    computed, bit `n` for position `n + 1`; position 0 is fresh. `freshTab0_2_step` checks it against the configuration's own
    step point by point and Lib/Pipeline/TableIdle.lean `Cfg.fresh_tab` makes it `Cfg.fresh` (`fresh0_2_eq`). -/
def freshTab0_2 : ℕ → Bool
  | 0 => true
  | n + 1 => (0x88 : ℕ).testBit n
theorem freshTab0_2_step : ∀ t : Fin cfg1.N,
    freshTab0_2 (t.val + 1) = ((cfg1.win 2).flush t || (cfg1.idle 2 (cfg1.grid.coords t) && freshTab0_2 t.val)) := by decide +kernel
theorem fresh0_2_eq (t : Fin cfg1.N) : cfg1.fresh 2 t.val = freshTab0_2 t.val :=
  Pipeline.Cfg.fresh_tab cfg1 2 freshTab0_2 rfl freshTab0_2_step t.val (Nat.le_of_lt t.isLt)
/-- At the points of case A the printed configuration (`Cfg.idle`) calls output 2 live: the case stores into it. -/
theorem liveAt0_2_A : ∀ t : Fin cfg1.N, cond0_0 (grid1.coords t) → ¬cond0_1 (grid1.coords t) → cfg1.idle 2 (grid1.coords t) = false := by decide +kernel
/-- At the points of case B the printed configuration (`Cfg.idle`) calls output 2 live: the case stores into it. -/
theorem liveAt0_2_B : ∀ t : Fin cfg1.N, ¬cond0_0 (grid1.coords t) → cond0_1 (grid1.coords t) → cfg1.idle 2 (grid1.coords t) = false := by decide +kernel
/-- At the points of case B, which keeps output 2's prior contents (reads it before covering, or covers it in part), the
    window's buffer is not FRESH: something was stored into it since the region's entry or its last write-back, idle points
    between or not (Lib/Pipeline/TableIdle.lean `Cfg.fresh`, by the table `freshTab0_2`). -/
theorem notFresh0_2_B : ∀ t : Fin cfg1.N, ¬cond0_0 (grid1.coords t) → cond0_1 (grid1.coords t) → cfg1.fresh 2 t.val = false := by
  intro t; rw [fresh0_2_eq t]; revert t; decide +kernel

/-! ## The kernel body on any staging memrefs: a subtype the run finds -/

/-- One staging buffer of output window 1, through which its contents are stated (`View.read_writes_of_cover`: the
    choice does not matter). -/
abbrev VO0_1 : View sig .tc .vmem S1x256x256 .f32 := (Memref.whole cc1_stg1_0 : Memref sig .tc .vmem S1x256x256 .f32).view
/-- One staging buffer of output window 2, through which its contents are stated (`View.read_writes_of_cover`: the
    choice does not matter). -/
abbrev VO0_2 : View sig .tc .vmem S1x8x256 .f32 := (Memref.whole cc1_stg2_0 : Memref sig .tc .vmem S1x8x256 .f32).view
/-- Each window's current staging memref at point `t`, spelled as the pipeline passes it (`bodyAt1`), and its wholeness. -/
abbrev ms0_0 (t : Fin cfg1.N) : Memref sig .tc .vmem S256x40x320 .bf16 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S1x256x256 .f32 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S1x8x256 .f32 := win1_2.stage (cfg1.slots t 2)
abbrev hs0_2 (t : Fin cfg1.N) : (ms0_2 t).IsWhole := hstage1_2 ((cfg1.slots t 2).cast nbuf1_2)

end Cert.KernelIdeal.Gram

end
-- ==== Proof.GramRunA.lean ====
/- Region 1: the body run in case A. -/
module

public import proofs.«01_k».proof.Proof.GramRuns

@[expose] public section

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 4), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid1.Coords) (arg2 : Memref sig .tc .vmem S256x40x320 .bf16) (harg2 : arg2.IsWhole) (arg3 : Memref sig .tc .vmem S1x256x256 .f32) (harg3 : arg3.IsWhole) (arg4 : Memref sig .tc .vmem S1x8x256 .f32) (harg4 : arg4.IsWhole) (hc0 : cond0_0 i) (hc1 : ¬cond0_1 i)
    (x0 : Vec F S256x40x320 .bf16) :
    Σ' (L1 : List (View.Piece (Elt F) S1x256x256 .f32)), { L2 : List (View.Piece (Elt F) S1x8x256 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2)) -∗ K ⟨⟩))
          ⊢ wp frame (wpE (defs₀ (F := F)) Variants.none c none) E (cc1_gram i arg2 harg2 arg3 harg3 arg4 harg4) K } := by
  refine ⟨?_, ?_, fun E K => ?run⟩
  case run =>
    simp only [cc1_gram_eq_skeleton]; unfold cc1_gram_skel
    unfold owns
    iintro ⟨⟨%f0, %hf0, H0⟩, ⟨%d1, %f1, -, H1⟩, ⟨%d2, %f2, -, H2⟩, Hk⟩
    obtain rfl := harg2.eq_unread hf0
    sl_exec (disch := first | sl_exact hc0 | sl_exact hc1)
    sl_step
    iapply Hk
    isplitl [H0]
    · iexists _; isplitr; · ipureintro; exact harg2.read_unread _
      iexact H0
    isplitl [H1]; · iexists _; iexact H1
    iexists _; iexact H2

end Cert.KernelIdeal.Gram

end
-- ==== Proof.GramRunB.lean ====
/- Region 1: the body run in case B. -/
module

public import proofs.«01_k».proof.Proof.GramRuns

@[expose] public section

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, 3, 5, 6, 7), WITH the
    proof that on whole staging memrefs — the inputs' at their contents, the outputs it reads before covering (1, 2) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid1.Coords) (arg2 : Memref sig .tc .vmem S256x40x320 .bf16) (harg2 : arg2.IsWhole) (arg3 : Memref sig .tc .vmem S1x256x256 .f32) (harg3 : arg3.IsWhole) (arg4 : Memref sig .tc .vmem S1x8x256 .f32) (harg4 : arg4.IsWhole) (hc0 : ¬cond0_0 i) (hc1 : cond0_1 i)
    (x0 : Vec F S256x40x320 .bf16) (xo1 : Vec F S1x256x256 .f32) (xo2 : Vec F S1x8x256 .f32) :
    Σ' (L1 : List (View.Piece (Elt F) S1x256x256 .f32)), { L2 : List (View.Piece (Elt F) S1x8x256 .f32) //
      ∀ (E : Set ℕ) (K : PUnit → sProp 𝕄),
        iprop(owns (c : Thread nD τ) arg2 fullShare x0 ∗ owns (c : Thread nD τ) arg3 fullShare xo1 ∗ owns (c : Thread nD τ) arg4 fullShare xo2
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2)) -∗ K ⟨⟩))
          ⊢ wp frame (wpE (defs₀ (F := F)) Variants.none c none) E (cc1_gram i arg2 harg2 arg3 harg3 arg4 harg4) K } := by
  refine ⟨?_, ?_, fun E K => ?run⟩
  case run =>
    simp only [cc1_gram_eq_skeleton]; unfold cc1_gram_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]; · iexists _; iexact H1
    iexists _; iexact H2

end Cert.KernelIdeal.Gram

end
-- ==== Proof.GramBody.lean ====
/- Region 1: what the outputs hold after each grid point, the proof data, and the body's obligation. -/
module

public import proofs.«01_k».proof.Proof.GramRunA
public import proofs.«01_k».proof.Proof.GramRunB

@[expose] public section

set_option maxRecDepth 16384

noncomputable section

namespace Cert.KernelIdeal.Gram

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A's pieces for output 1 tile its block (1 store of `S1x256x256`, checked by the kernel's evaluation: Lib/Ring.lean `Piece.tiledL`, linear in the pieces, through a loop's `@[irreducible]` trip theorem too), so they cover it. -/
theorem cover0_A_1 (c : Dev nD) (i : grid1.Coords) (arg2 : Memref sig .tc .vmem S256x40x320 .bf16) (harg2 : arg2.IsWhole) (arg3 : Memref sig .tc .vmem S1x256x256 .f32) (harg3 : arg3.IsWhole) (arg4 : Memref sig .tc .vmem S1x8x256 .f32) (harg4 : arg4.IsWhole) (hc0 : cond0_0 i) (hc1 : ¬cond0_1 i)
    (x0 : Vec F S256x40x320 .bf16) (y : S1x256x256.Idx) :
    ∃ pc ∈ (kernelRun0_A c i arg2 harg2 arg3 harg3 arg4 harg4 hc0 hc1 x0).1, y ∈ pc.1.set :=
  View.cover_of_tiledL (kernelRun0_A c i arg2 harg2 arg3 harg3 arg4 harg4 hc0 hc1 x0).1 S1x256x256.size (by sl_kernel_rfl) y

/-- What case A leaves in output 1's staging buffer: its pieces read back over junk. -/
def out0_A_1 (c : Dev nD) (i : grid1.Coords) (arg2 : Memref sig .tc .vmem S256x40x320 .bf16) (harg2 : arg2.IsWhole) (arg3 : Memref sig .tc .vmem S1x256x256 .f32) (harg3 : arg3.IsWhole) (arg4 : Memref sig .tc .vmem S1x8x256 .f32) (harg4 : arg4.IsWhole) (hc0 : cond0_0 i) (hc1 : ¬cond0_1 i)
    (x0 : Vec F S256x40x320 .bf16) : Vec F S1x256x256 .f32 :=
  VO0_1.read (Elt F) (VO0_1.writes (Elt F) VO0_1.junk (kernelRun0_A c i arg2 harg2 arg3 harg3 arg4 harg4 hc0 hc1 x0).1)

/-- Case A's pieces for output 2 tile its block (1 store of `S1x8x256`, checked by the kernel's evaluation: Lib/Ring.lean `Piece.tiledL`, linear in the pieces, through a loop's `@[irreducible]` trip theorem too), so they cover it. -/
theorem cover0_A_2 (c : Dev nD) (i : grid1.Coords) (arg2 : Memref sig .tc .vmem S256x40x320 .bf16) (harg2 : arg2.IsWhole) (arg3 : Memref sig .tc .vmem S1x256x256 .f32) (harg3 : arg3.IsWhole) (arg4 : Memref sig .tc .vmem S1x8x256 .f32) (harg4 : arg4.IsWhole) (hc0 : cond0_0 i) (hc1 : ¬cond0_1 i)
    (x0 : Vec F S256x40x320 .bf16) (y : S1x8x256.Idx) :
    ∃ pc ∈ (kernelRun0_A c i arg2 harg2 arg3 harg3 arg4 harg4 hc0 hc1 x0).2.1, y ∈ pc.1.set :=
  View.cover_of_tiledL (kernelRun0_A c i arg2 harg2 arg3 harg3 arg4 harg4 hc0 hc1 x0).2.1 S1x8x256.size (by sl_kernel_rfl) y

/-- What case A leaves in output 2's staging buffer: its pieces read back over junk. -/
def out0_A_2 (c : Dev nD) (i : grid1.Coords) (arg2 : Memref sig .tc .vmem S256x40x320 .bf16) (harg2 : arg2.IsWhole) (arg3 : Memref sig .tc .vmem S1x256x256 .f32) (harg3 : arg3.IsWhole) (arg4 : Memref sig .tc .vmem S1x8x256 .f32) (harg4 : arg4.IsWhole) (hc0 : cond0_0 i) (hc1 : ¬cond0_1 i)
    (x0 : Vec F S256x40x320 .bf16) : Vec F S1x8x256 .f32 :=
  VO0_2.read (Elt F) (VO0_2.writes (Elt F) VO0_2.junk (kernelRun0_A c i arg2 harg2 arg3 harg3 arg4 harg4 hc0 hc1 x0).2.1)

/-- Case B's pieces for output 1 tile its block (1 store of `S1x256x256`, checked by the kernel's evaluation: Lib/Ring.lean `Piece.tiledL`, linear in the pieces, through a loop's `@[irreducible]` trip theorem too), so they cover it. -/
theorem cover0_B_1 (c : Dev nD) (i : grid1.Coords) (arg2 : Memref sig .tc .vmem S256x40x320 .bf16) (harg2 : arg2.IsWhole) (arg3 : Memref sig .tc .vmem S1x256x256 .f32) (harg3 : arg3.IsWhole) (arg4 : Memref sig .tc .vmem S1x8x256 .f32) (harg4 : arg4.IsWhole) (hc0 : ¬cond0_0 i) (hc1 : cond0_1 i)
    (x0 : Vec F S256x40x320 .bf16) (xo1 : Vec F S1x256x256 .f32) (xo2 : Vec F S1x8x256 .f32) (y : S1x256x256.Idx) :
    ∃ pc ∈ (kernelRun0_B c i arg2 harg2 arg3 harg3 arg4 harg4 hc0 hc1 x0 xo1 xo2).1, y ∈ pc.1.set :=
  View.cover_of_tiledL (kernelRun0_B c i arg2 harg2 arg3 harg3 arg4 harg4 hc0 hc1 x0 xo1 xo2).1 S1x256x256.size (by sl_kernel_rfl) y

/-- What case B leaves in output 1's staging buffer: its pieces read back over junk. -/
def out0_B_1 (c : Dev nD) (i : grid1.Coords) (arg2 : Memref sig .tc .vmem S256x40x320 .bf16) (harg2 : arg2.IsWhole) (arg3 : Memref sig .tc .vmem S1x256x256 .f32) (harg3 : arg3.IsWhole) (arg4 : Memref sig .tc .vmem S1x8x256 .f32) (harg4 : arg4.IsWhole) (hc0 : ¬cond0_0 i) (hc1 : cond0_1 i)
    (x0 : Vec F S256x40x320 .bf16) (xo1 : Vec F S1x256x256 .f32) (xo2 : Vec F S1x8x256 .f32) : Vec F S1x256x256 .f32 :=
  VO0_1.read (Elt F) (VO0_1.writes (Elt F) VO0_1.junk (kernelRun0_B c i arg2 harg2 arg3 harg3 arg4 harg4 hc0 hc1 x0 xo1 xo2).1)

/-- Case B's pieces for output 2 tile its block (1 store of `S1x8x256`, checked by the kernel's evaluation: Lib/Ring.lean `Piece.tiledL`, linear in the pieces, through a loop's `@[irreducible]` trip theorem too), so they cover it. -/
theorem cover0_B_2 (c : Dev nD) (i : grid1.Coords) (arg2 : Memref sig .tc .vmem S256x40x320 .bf16) (harg2 : arg2.IsWhole) (arg3 : Memref sig .tc .vmem S1x256x256 .f32) (harg3 : arg3.IsWhole) (arg4 : Memref sig .tc .vmem S1x8x256 .f32) (harg4 : arg4.IsWhole) (hc0 : ¬cond0_0 i) (hc1 : cond0_1 i)
    (x0 : Vec F S256x40x320 .bf16) (xo1 : Vec F S1x256x256 .f32) (xo2 : Vec F S1x8x256 .f32) (y : S1x8x256.Idx) :
    ∃ pc ∈ (kernelRun0_B c i arg2 harg2 arg3 harg3 arg4 harg4 hc0 hc1 x0 xo1 xo2).2.1, y ∈ pc.1.set :=
  View.cover_of_tiledL (kernelRun0_B c i arg2 harg2 arg3 harg3 arg4 harg4 hc0 hc1 x0 xo1 xo2).2.1 S1x8x256.size (by sl_kernel_rfl) y

/-- What case B leaves in output 2's staging buffer: its pieces read back over junk. -/
def out0_B_2 (c : Dev nD) (i : grid1.Coords) (arg2 : Memref sig .tc .vmem S256x40x320 .bf16) (harg2 : arg2.IsWhole) (arg3 : Memref sig .tc .vmem S1x256x256 .f32) (harg3 : arg3.IsWhole) (arg4 : Memref sig .tc .vmem S1x8x256 .f32) (harg4 : arg4.IsWhole) (hc0 : ¬cond0_0 i) (hc1 : cond0_1 i)
    (x0 : Vec F S256x40x320 .bf16) (xo1 : Vec F S1x256x256 .f32) (xo2 : Vec F S1x8x256 .f32) : Vec F S1x8x256 .f32 :=
  VO0_2.read (Elt F) (VO0_2.writes (Elt F) VO0_2.junk (kernelRun0_B c i arg2 harg2 arg3 harg3 arg4 harg4 hc0 hc1 x0 xo1 xo2).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg1.N → Vec F S1x256x256 .f32 × Vec F S1x8x256 .f32
  | 0, hn => (out0_A_1 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (fun h => (fun h => by (try dsimp only at h); omega) ((hcond0_1 ⟨0, hn⟩).mp h)) (iblk V c 0 ⟨0, hn⟩), out0_A_2 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (fun h => (fun h => by (try dsimp only at h); omega) ((hcond0_1 ⟨0, hn⟩).mp h)) (iblk V c 0 ⟨0, hn⟩))
  | n + 1, hn =>
    if h0 : (n + 1) % 4 = 0 then
      if h1 : 1 ≤ (n + 1) % 4 then
        False.elim (by have hN : n + 1 < 8 := lt_of_lt_of_eq hn (show cfg1.N = 8 from N_1); omega)
      else
        (out0_A_1 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (fun h => h1 ((hcond0_1 ⟨n + 1, hn⟩).mp h)) (iblk V c 0 ⟨n + 1, hn⟩), out0_A_2 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (fun h => h1 ((hcond0_1 ⟨n + 1, hn⟩).mp h)) (iblk V c 0 ⟨n + 1, hn⟩))
    else
      if h1 : 1 ≤ (n + 1) % 4 then
        (out0_B_1 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) ((hcond0_1 ⟨n + 1, hn⟩).mpr h1) (iblk V c 0 ⟨n + 1, hn⟩) (outsAt0 c n (Nat.lt_of_succ_lt hn)).1 (outsAt0 c n (Nat.lt_of_succ_lt hn)).2, out0_B_2 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) ((hcond0_1 ⟨n + 1, hn⟩).mpr h1) (iblk V c 0 ⟨n + 1, hn⟩) (outsAt0 c n (Nat.lt_of_succ_lt hn)).1 (outsAt0 c n (Nat.lt_of_succ_lt hn)).2)
      else
        False.elim (by have hN : n + 1 < 8 := lt_of_lt_of_eq hn (show cfg1.N = 8 from N_1); omega)

/-- `outsAt0` at a point of case A: that case's contents. -/
theorem outsAt0_A (c : Dev nD) (t : Fin cfg1.N) (h0 : t.val % 4 = 0) (h1 : ¬1 ≤ t.val % 4) :
    outsAt0 V c t.val t.isLt = (out0_A_1 c (grid1.coords t) (ms0_0 t) (hs0_0 t) (ms0_1 t) (hs0_1 t) (ms0_2 t) (hs0_2 t) ((hcond0_0 t).mpr h0) (fun h => h1 ((hcond0_1 t).mp h)) (iblk V c 0 t), out0_A_2 c (grid1.coords t) (ms0_0 t) (hs0_0 t) (ms0_1 t) (hs0_1 t) (ms0_2 t) (hs0_2 t) ((hcond0_0 t).mpr h0) (fun h => h1 ((hcond0_1 t).mp h)) (iblk V c 0 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg1.N) (h0 : ¬t.val % 4 = 0) (h1 : 1 ≤ t.val % 4) :
    outsAt0 V c t.val t.isLt = (out0_B_1 c (grid1.coords t) (ms0_0 t) (hs0_0 t) (ms0_1 t) (hs0_1 t) (ms0_2 t) (hs0_2 t) (fun h => h0 ((hcond0_0 t).mp h)) ((hcond0_1 t).mpr h1) (iblk V c 0 t) (outsAt0 V c (t.val - 1) (Nat.lt_of_le_of_lt (Nat.sub_le _ _) t.isLt)).1 (outsAt0 V c (t.val - 1) (Nat.lt_of_le_of_lt (Nat.sub_le _ _) t.isLt)).2, out0_B_2 c (grid1.coords t) (ms0_0 t) (hs0_0 t) (ms0_1 t) (hs0_1 t) (ms0_2 t) (hs0_2 t) (fun h => h0 ((hcond0_0 t).mp h)) ((hcond0_1 t).mpr h1) (iblk V c 0 t) (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => (outsAt0 V c t.val t.isLt).1
    | ⟨2, _⟩ => (outsAt0 V c t.val t.isLt).2
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- What the body leaves, window by window (the proof data's `match` reduced by `dsimp`). -/
theorem after0_0 (c : Dev nD) (t : Fin cfg1.N) : (dat V c).after 0 t = iblk V c 0 t := by dsimp only [dat]
theorem after0_1 (c : Dev nD) (t : Fin cfg1.N) : (dat V c).after 1 t = (outsAt0 V c t.val t.isLt).1 := by dsimp only [dat]
theorem after0_2 (c : Dev nD) (t : Fin cfg1.N) : (dat V c).after 2 t = (outsAt0 V c t.val t.isLt).2 := by dsimp only [dat]

/-- Each input's current staging buffer holds its block at every point, fetched there or not (`beforeK_W_of`). -/
theorem before0_0 (c : Dev nD) (t : Fin cfg1.N) (d) : (dat V c).before 0 t d = iblk V c 0 t :=
  before0_0_of V (dat V c) (A_eq V c 0) (after0_0 V c) t d

/-- Output 1's contents CARRY through the points that leave it idle: at such a point, its buffer not fresh, the proof data's
    `after` is the point before's (the case there stores nothing into the window and its term says so; a case that stores
    into it is not idle there by `liveAt0_1_κ`) — the hypothesis of Lib/Pipeline/TableIdle.lean `Dat.before_out_traj`. -/
theorem hcarry0_1 (c : Dev nD) : ∀ (t : Fin cfg1.N) (_ : t.val ≠ 0), cfg1.idle 1 (grid1.coords t) = true → cfg1.fresh 1 t.val = false →
    (dat V c).after 1 t = (dat V c).after 1 ⟨t.val - 1, by omega⟩ := by
  intro t _ hi _
  have hN : t.val < 8 := lt_of_lt_of_eq t.isLt (show cfg1.N = 8 from N_1)
  rw [after0_1, after0_1]
  by_cases h0 : t.val % 4 = 0
  · by_cases h1 : 1 ≤ t.val % 4
    · exfalso; omega
    · rw [liveAt0_1_A t ((hcond0_0 t).mpr h0) (fun h => h1 ((hcond0_1 t).mp h))] at hi
      exact absurd hi Bool.false_ne_true
  · by_cases h1 : 1 ≤ t.val % 4
    · rw [liveAt0_1_B t (fun h => h0 ((hcond0_0 t).mp h)) ((hcond0_1 t).mpr h1)] at hi
      exact absurd hi Bool.false_ne_true
    · exfalso; omega

/-- Output 2's contents CARRY through the points that leave it idle: at such a point, its buffer not fresh, the proof data's
    `after` is the point before's (the case there stores nothing into the window and its term says so; a case that stores
    into it is not idle there by `liveAt0_2_κ`) — the hypothesis of Lib/Pipeline/TableIdle.lean `Dat.before_out_traj`. -/
theorem hcarry0_2 (c : Dev nD) : ∀ (t : Fin cfg1.N) (_ : t.val ≠ 0), cfg1.idle 2 (grid1.coords t) = true → cfg1.fresh 2 t.val = false →
    (dat V c).after 2 t = (dat V c).after 2 ⟨t.val - 1, by omega⟩ := by
  intro t _ hi _
  have hN : t.val < 8 := lt_of_lt_of_eq t.isLt (show cfg1.N = 8 from N_1)
  rw [after0_2, after0_2]
  by_cases h0 : t.val % 4 = 0
  · by_cases h1 : 1 ≤ t.val % 4
    · exfalso; omega
    · rw [liveAt0_2_A t ((hcond0_0 t).mpr h0) (fun h => h1 ((hcond0_1 t).mp h))] at hi
      exact absurd hi Bool.false_ne_true
  · by_cases h1 : 1 ≤ t.val % 4
    · rw [liveAt0_2_B t (fun h => h0 ((hcond0_0 t).mp h)) ((hcond0_1 t).mpr h1)] at hi
      exact absurd hi Bool.false_ne_true
    · exfalso; omega
/-- At a point of case B output 1's current staging buffer holds what the point before left: the buffer is not fresh
    there (`notFresh0_1_B`: stored into since the region's entry or the last write-back, carried through the points that
    leave it idle by `hcarry0_1`; Lib/Pipeline/TableIdle.lean `Dat.before_out_traj`). -/
theorem before0_1_B (c : Dev nD) (t : Fin cfg1.N) (h0 : ¬t.val % 4 = 0) (h1 : 1 ≤ t.val % 4) (d) :
    (dat V c).before 1 t d = (outsAt0 V c (t.val - 1) (Nat.lt_of_le_of_lt (Nat.sub_le _ _) t.isLt)).1 := by
  rw [Dat.before_out_traj _ 1 rfl (fun _ _ => rfl) (hcarry0_1 V c) t.val t rfl d,
    if_neg (by rw [notFresh0_1_B t (fun h => h0 ((hcond0_0 t).mp h)) ((hcond0_1 t).mpr h1)]; exact Bool.false_ne_true)]
  dsimp only [dat]
/-- At a point of case B output 2's current staging buffer holds what the point before left: the buffer is not fresh
    there (`notFresh0_2_B`: stored into since the region's entry or the last write-back, carried through the points that
    leave it idle by `hcarry0_2`; Lib/Pipeline/TableIdle.lean `Dat.before_out_traj`). -/
theorem before0_2_B (c : Dev nD) (t : Fin cfg1.N) (h0 : ¬t.val % 4 = 0) (h1 : 1 ≤ t.val % 4) (d) :
    (dat V c).before 2 t d = (outsAt0 V c (t.val - 1) (Nat.lt_of_le_of_lt (Nat.sub_le _ _) t.isLt)).2 := by
  rw [Dat.before_out_traj _ 2 rfl (fun _ _ => rfl) (hcarry0_2 V c) t.val t rfl d,
    if_neg (by rw [notFresh0_2_B t (fun h => h0 ((hcond0_0 t).mp h)) ((hcond0_1 t).mpr h1)]; exact Bool.false_ne_true)]
  dsimp only [dat]

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0]
  rw [show (dat V c).Φ t.succ = (dat V c).Φ t.castSucc from rfl,
    show (dat V c).owesAt () t.succ = (dat V c).owesAt () t.castSucc from rfl]
  have hN : t.val < 8 := lt_of_lt_of_eq t.isLt (show cfg1.N = 8 from N_1)
  by_cases h0 : t.val % 4 = 0
  · by_cases h1 : 1 ≤ t.val % 4
    · exfalso; omega
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1_A t ((hcond0_0 t).mpr h0) (fun h => h1 ((hcond0_1 t).mp h))], after0_1]
      rw [show (dat V c).leavesExact 2 t = owns (c : Thread nD τ) (ms0_2 t) fullShare ((dat V c).after 2 t) from by
      unfold Dat.leavesExact; rw [liveAt0_2_A t ((hcond0_0 t).mpr h0) (fun h => h1 ((hcond0_1 t).mp h))], after0_2]
      rw [outsAt0_A V c t h0 h1]
      unfold out0_A_1 out0_A_2; (try dsimp only)
      iintro ⟨HΦ, Ho, ⟨%d0, H0⟩, ⟨%d1, H1⟩, ⟨%d2, H2⟩⟩
      iapply ((kernelRun0_A c (grid1.coords t) _ _ _ _ _ _ ((hcond0_0 t).mpr h0) (fun h => h1 ((hcond0_1 t).mp h)) (iblk V c 0 t)).2.2 Set.univ _)
      isplitl [H0]; · iexact H0
      isplitl [H1]; · iexists _; iexact H1
      isplitl [H2]; · iexists _; iexact H2
      iintro ⟨H0, ⟨%e1, H1⟩, ⟨%e2, H2⟩⟩
      isplitl [HΦ]; · iexact HΦ
      isplitl [Ho]; · iexact Ho
      isplitl [H0]; · iexact H0
      isplitl [H1]
      · unfold owns; iexists _; isplitr
        swap; · iexact H1
        ipureintro; exact View.read_writes_of_cover _ _ _ _ _ (cover0_A_1 c _ _ _ _ _ _ _ _ _ _)
      unfold owns; iexists _; isplitr
      swap; · iexact H2
      ipureintro; exact View.read_writes_of_cover _ _ _ _ _ (cover0_A_2 c _ _ _ _ _ _ _ _ _ _)
  · by_cases h1 : 1 ≤ t.val % 4
    · rw [show (dat V c).leavesExact 0 t = owns (c : Thread nD τ) (ms0_0 t) fullShare ((dat V c).after 0 t) from by
      unfold Dat.leavesExact; rw [liveAt0_0 t], after0_0]
      rw [show (dat V c).leavesExact 1 t = owns (c : Thread nD τ) (ms0_1 t) fullShare ((dat V c).after 1 t) from by
      unfold Dat.leavesExact; rw [liveAt0_1_B t (fun h => h0 ((hcond0_0 t).mp h)) ((hcond0_1 t).mpr h1)], after0_1]
      rw [show (dat V c).leavesExact 2 t = owns (c : Thread nD τ) (ms0_2 t) fullShare ((dat V c).after 2 t) from by
      unfold Dat.leavesExact; rw [liveAt0_2_B t (fun h => h0 ((hcond0_0 t).mp h)) ((hcond0_1 t).mpr h1)], after0_2]
      rw [outsAt0_B V c t h0 h1]
      simp only [before0_1_B V c t h0 h1, before0_2_B V c t h0 h1]
      unfold out0_B_1 out0_B_2; (try dsimp only)
      iintro ⟨HΦ, Ho, ⟨%d0, H0⟩, ⟨%d1, H1⟩, ⟨%d2, H2⟩⟩
      iapply ((kernelRun0_B c (grid1.coords t) _ _ _ _ _ _ (fun h => h0 ((hcond0_0 t).mp h)) ((hcond0_1 t).mpr h1) (iblk V c 0 t) _ _).2.2 Set.univ _)
      isplitl [H0]; · iexact H0
      isplitl [H1]; · iexact H1
      isplitl [H2]; · iexact H2
      iintro ⟨H0, ⟨%e1, H1⟩, ⟨%e2, H2⟩⟩
      isplitl [HΦ]; · iexact HΦ
      isplitl [Ho]; · iexact Ho
      isplitl [H0]; · iexact H0
      isplitl [H1]
      · unfold owns; iexists _; isplitr
        swap; · iexact H1
        ipureintro; exact View.read_writes_of_cover _ _ _ _ _ (cover0_B_1 c _ _ _ _ _ _ _ _ _ _ _ _)
      unfold owns; iexists _; isplitr
      swap; · iexact H2
      ipureintro; exact View.read_writes_of_cover _ _ _ _ _ (cover0_B_2 c _ _ _ _ _ _ _ _ _ _ _ _)
    · exfalso; omega

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

end Cert.KernelIdeal.Gram

end
-- ==== Proof.FinBody.lean ====
/- Region 2: the gridless call's body, proof data and obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Frame
public import Idealize.ShloMosaic.Lib.Pipeline.TableIdle
public import Idealize.ShloMosaic.Lib.Pipeline.Value
public import Idealize.ShloMosaic.Lib.Tactic
public import Idealize.ShloMosaic.Lib.Ring
public import Idealize.ShloMosaic.Lib.WordCmp

@[expose] public section

set_option maxRecDepth 16384

noncomputable section

namespace Cert.KernelIdeal.Fin

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S2x256x256 := Rect.unit (s := S2x256x256) ![0, 0, 0] S1x256x256.size inb_S2x256x256_S1x256x256_0_0_0
abbrev r0_1 : Rect S2x256x256 := Rect.unit (s := S2x256x256) ![1, 0, 0] S1x256x256.size inb_S2x256x256_S1x256x256_1_0_0
abbrev r0_2 : Rect S2x8x256 := Rect.unit (s := S2x8x256) ![0, 0, 0] S1x1x256.size inb_S2x8x256_S1x1x256_0_0_0
abbrev r0_3 : Rect S2x8x256 := Rect.unit (s := S2x8x256) ![1, 0, 0] S1x1x256.size inb_S2x8x256_S1x1x256_1_0_0
abbrev r0_4 : Rect S2x168x640 := Rect.unit (s := S2x168x640) ![0, 0, 0] S1x168x640.size inb_S2x168x640_S1x168x640_0_0_0
abbrev r0_5 : Rect S2x168x640 := Rect.unit (s := S2x168x640) ![1, 0, 0] S1x168x640.size inb_S2x168x640_S1x168x640_1_0_0
abbrev r0_6 : Rect S168x320 := Rect.unit (s := S168x320) ![0, 0] S168x320.size inb_S168x320_S168x320_0_0
abbrev r0_7 : Rect S8x128 := Rect.unit (s := S8x128) ![0, 0] S8x128.size inb_S8x128_S8x128_0_0

/-! ## What the body leaves in each output window's buffer -/

/-- Window 4's staging buffer after the body, from the input windows' blocks: its 1 store as pieces, LAST
    FIRST (Lib/Pipeline/FrameBody.lean `View.canon`; the payloads are the skeleton's). -/
def out0_4 (x0 : Vec F S2x256x256 .f32) (x1 : Vec F S2x8x256 .f32) (x2 : Vec F S2x168x640 .f32) (x3 : Vec F S168x320 .f32) : Vec F S8x128 .f32 :=
  View.canon [⟨r0_7, k2_pay1 (k2_pay8 (k2_pay2 (View.ld x0 r0_0) (View.ld x0 r0_1) (View.ld x1 r0_2) (View.ld x1 r0_3)) k2_pay3 (k2_pay6 (iota .tc S256x256 32 [0] iota_S256x256_d0_w32) (iota .tc S256x256 32 [1] iota_S256x256_d1_w32) 4#32 k2_pay4 k2_pay5) (k2_pay7 (F := F))) (k2_pay9 (View.ld x2 r0_4) (View.ld x2 r0_5)) (k2_pay10 (View.ld x3 r0_6)) (k2_pay11 (View.ld x2 r0_4) (View.ld x2 r0_5) (View.ld x3 r0_6))⟩]

/-- Its stores tile the buffer (checked by evaluation), so they cover it. -/
theorem cover0_4 (p0 : Vec F S8x128 .f32) (y : S8x128.Idx) :
    ∃ pc ∈ ([⟨r0_7, p0⟩] : List (View.Piece (Elt F) S8x128 .f32)), y ∈ pc.1.set :=
  View.cover_of_tiled [⟨r0_7, p0⟩] S8x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S2x256x256 .f32) (harg0 : arg0.IsWhole) (arg1 : Memref sig .tc .vmem S2x8x256 .f32) (harg1 : arg1.IsWhole) (arg2 : Memref sig .tc .vmem S2x168x640 .f32) (harg2 : arg2.IsWhole) (arg3 : Memref sig .tc .vmem S168x320 .f32) (harg3 : arg3.IsWhole) (arg4 : Memref sig .tc .vmem S8x128 .f32) (harg4 : arg4.IsWhole)
    (x0 : Vec F S2x256x256 .f32) (x1 : Vec F S2x8x256 .f32) (x2 : Vec F S2x168x640 .f32) (x3 : Vec F S168x320 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out0_4 x0 x1 x2 x3)) -∗ K ⟨⟩))
      ⊢ wp frame (wpE (defs₀ (F := F)) Variants.none c none) E (cc2_dist_loss_finalize arg0 harg0 arg1 harg1 arg2 harg2 arg3 harg3 arg4 harg4) K := by
  simp only [cc2_dist_loss_finalize_eq_skeleton]; unfold cc2_dist_loss_finalize_skel
  simp only [k2_part1_eq_skeleton, k2_part2_eq_skeleton, k2_part3_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => out0_4 (iblk V c 0 t) (iblk V c 1 t) (iblk V c 2 t) (iblk V c 3 t)
  Φ _ := Pipeline.ΦA spec2 c
  q _ := fullShare
  owed _ := 0

/-- The proof data's arrays are the region-entry contents: the proof data's definition projected (`dsimp`), so that
    `V` — a fold over @main's host prefix, long for some programs — is never unfolded to check it. -/
theorem A_eq (c : Dev nD) (w : Fin cfg2.W) : (dat V c).A w = V c (Pipeline.arrRef spec2 w) := by
  dsimp only [dat]

/-- What the body leaves, window by window (the proof data's `match` reduced by `dsimp`, never `rfl`: Lib/Pipeline.lean `Dat`). -/
theorem after0_0 (c : Dev nD) (t : Fin cfg2.N) : (dat V c).after 0 t = iblk V c 0 t := by dsimp only [dat]
theorem after0_1 (c : Dev nD) (t : Fin cfg2.N) : (dat V c).after 1 t = iblk V c 1 t := by dsimp only [dat]
theorem after0_2 (c : Dev nD) (t : Fin cfg2.N) : (dat V c).after 2 t = iblk V c 2 t := by dsimp only [dat]
theorem after0_3 (c : Dev nD) (t : Fin cfg2.N) : (dat V c).after 3 t = iblk V c 3 t := by dsimp only [dat]
theorem after0_4 (c : Dev nD) (t : Fin cfg2.N) : (dat V c).after 4 t = out0_4 (iblk V c 0 t) (iblk V c 1 t) (iblk V c 2 t) (iblk V c 3 t) := by dsimp only [dat]

/-- Each input's current staging buffer holds its block at every point, fetched there or not (`beforeK_W_of`). -/
theorem before0_0 (c : Dev nD) (t : Fin cfg2.N) (d) : (dat V c).before 0 t d = iblk V c 0 t :=
  before0_0_of V (dat V c) (A_eq V c 0) (after0_0 V c) t d
theorem before0_1 (c : Dev nD) (t : Fin cfg2.N) (d) : (dat V c).before 1 t d = iblk V c 1 t :=
  before0_1_of V (dat V c) (A_eq V c 1) (after0_1 V c) t d
theorem before0_2 (c : Dev nD) (t : Fin cfg2.N) (d) : (dat V c).before 2 t d = iblk V c 2 t :=
  before0_2_of V (dat V c) (A_eq V c 2) (after0_2 V c) t d
theorem before0_3 (c : Dev nD) (t : Fin cfg2.N) (d) : (dat V c).before 3 t d = iblk V c 3 t :=
  before0_3_of V (dat V c) (A_eq V c 3) (after0_3 V c) t d

/-! ## The body obligation, at a generic point -/

/-- What the body is called with at point `t` (Lib/Pipeline.lean `BodyObligation`'s precondition, the windows one by one), -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t))

/-- The body at any point: the inputs' memrefs hold their blocks (`before0_W`), so `sound_kernel` applies; the invariant and
    the core's `owes` pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0_0, before0_1, before0_2, before0_3]
  rw [show (dat V c).Φ t.succ = (dat V c).Φ t.castSucc from rfl,
    show (dat V c).owesAt () t.succ = (dat V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt2` spells it. -/
theorem defs₀_row (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W2, bigSep_W2, defs₀_row]
  exact triple_restated (sound_body V c t) rfl .rfl fun _ => .rfl

end Cert.KernelIdeal.Fin

end
-- ==== Proof.Whole.lean ====
/- KernelIdeal's run: the five items of @main (host operations, the three kernel calls, host operations) chained over the unscoped
   buffers, each call's arrays left at what its proof data compute. -/
module

public import proofs.«01_k».proof.Proof.Gen.KernelIdeal.Regions
public import proofs.«01_k».proof.Proof.PsdBody
public import proofs.«01_k».proof.Proof.GramBody
public import proofs.«01_k».proof.Proof.FinBody
public import Idealize.ShloMosaic.Lib.Pipeline.RegionArraysS

@[expose] public section

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg afterRegion)

variable {F : FTy → Type} [FloatOps F]

local notation "𝕄" => MT nD τ sig Unit (Elt F) ℕ (UR sig nD τ) ℕ

/-- A valuation read at the TensorCore's references. -/
abbrev tcOf (W : Dev nD → Valuation τ sig (Elt F)) (c : Dev nD) (b : Ref sig .tc) : Buf (Elt F) ((c : Thread nD τ).loc b) := W c b

variable (m : (ℓ : Loc nD τ sig) → Buf (Elt F) ℓ) (ρ : Dev nD → PrngReg)

/-! ## The buffers' contents between items -/

/-- After the first host stretch; -/
def W1 (c : Dev nD) : Valuation τ sig (Elt F) := StableHlo.after hostOps0 (V0 m c)
/-- after the spectral call; -/
def W2 (c : Dev nD) : Valuation τ sig (Elt F) := afterRegion (Psd.dat (F := F) (tcOf (W1 m)) c) (W1 m c)
/-- after the Gram call; -/
def W3 (c : Dev nD) : Valuation τ sig (Elt F) := afterRegion (Gram.dat (F := F) (tcOf (W2 m)) c) (W2 m c)
/-- after the last call; -/
def W4 (c : Dev nD) : Valuation τ sig (Elt F) := afterRegion (Fin.dat (F := F) (tcOf (W3 m)) c) (W3 m c)
/-- and at the end. -/
def W5 (c : Dev nD) : Valuation τ sig (Elt F) := StableHlo.after hostOps3 (W4 m c)

/-- The three calls' proof data, each over the contents its call is entered with. -/
def pdats : (p : Fin 3) → (c : Dev nD) → Dat τ (Elt F) Unit ℕ (UR sig nD τ) ℕ (cfgs p) c
  | ⟨0, _⟩ => Psd.dat (tcOf (W1 m))
  | ⟨1, _⟩ => Gram.dat (tcOf (W2 m))
  | ⟨2, _⟩ => Fin.dat (tcOf (W3 m))

theorem W2_eq (c : Dev nD) : W2 m c = afterRegion (cfg := Pipeline.pin (pcfgs (F := F)) adm 0) (pdats m 0 c) (W1 m c) := rfl
theorem W3_eq (c : Dev nD) : W3 m c = afterRegion (cfg := Pipeline.pin (pcfgs (F := F)) adm 1) (pdats m 1 c) (W2 m c) := rfl
theorem W4_eq (c : Dev nD) : W4 m c = afterRegion (cfg := Pipeline.pin (pcfgs (F := F)) adm 2) (pdats m 2 c) (W3 m c) := rfl

/-! ## The levels: nothing is owed -/

/-- One index at every TensorCore semaphore. -/
abbrev L : GSem nD τ sig → Finset Unit := fun g => if g.1.2 = .tc then {()} else ∅
/-- All at one level. -/
abbrev lv : GSem nD τ sig → Unit → ℕ := fun _ _ => 0

theorem cut (p : Fin 3) : Pipeline.LevelCut (Val := Elt F) (nD := nD) (τ := τ) (pcfgs (F := F)) adm () L lv p (fun _ => 0) (fun _ => 0) where
  hι c w s := by simp [L]
  hιb c w s := le_refl _
  hD c g i h := absurd h (by simp)

/-- What rides beside the buffers: the core owing nothing, and its generator register. -/
abbrev E (c : Dev nD) : sProp 𝕄 :=
  iprop((∃ Wd, owes (c : Thread nD τ) (0 : CellTallies nD τ sig Unit) Wd) ∗ (∃ r, prngReg c r) ∗ emp)

/-! ## The regions -/

/-- The generator register at some state: what a call takes into its invariant beside its scoped buffers. -/
abbrev X (c : Dev nD) : sProp 𝕄 := iprop(∃ r, prngReg c r)

set_option backward.isDefEq.respectTransparency.types false in
/-- The spectral call's segment. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig) X X
    launch0.toP rfl (fun c => (Psd.body_obligation (tcOf (W1 m)) c).loose) (fun _ _ => rfl) (fun _ => rfl)
    (fun c => (Psd.dat (tcOf (W1 m)) c).share_full fun _ => rfl) (fun c => Psd.hin (tcOf (W1 m)) c) (fun c => Psd.hout (tcOf (W1 m)) c)
    (fun _ => 0) (cut 0) (fun _ => iprop(emp)) (W1 m) (fun c w => Psd.A_eq (tcOf (W1 m)) c w)

set_option backward.isDefEq.respectTransparency.types false in
/-- The Gram call's segment. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig) X X
    launch1.toP rfl (fun c => (Gram.body_obligation (tcOf (W2 m)) c).loose) (fun _ _ => rfl) (fun _ => rfl)
    (fun c => (Gram.dat (tcOf (W2 m)) c).share_full fun _ => rfl) (fun c => .rfl) (fun c => .rfl)
    (fun _ => 0) (cut 1) (fun _ => iprop(emp)) (W2 m) (fun c w => Gram.A_eq (tcOf (W2 m)) c w)

set_option backward.isDefEq.respectTransparency.types false in
/-- The last call's segment. -/
def reg2 : RegionSeg (pcfgs (F := F)) adm (pdats m) () defs₀ Variants.none L lv 2 :=
  RegionSeg.ofHeldIn (pcfgs (F := F)) adm (pdats m) () defs₀ Variants.none L lv 2 (fun _ => 0) (Pipeline.ucRefs τ sig) X X
    launch2.toP rfl (fun c => (Fin.body_obligation (tcOf (W3 m)) c).loose) (fun _ _ => rfl) (fun _ => rfl)
    (fun c => (Fin.dat (tcOf (W3 m)) c).share_full fun _ => rfl) (fun c => .rfl) (fun c => .rfl)
    (fun _ => 0) (cut 2) (fun _ => iprop(emp)) (W3 m) (fun c w => Fin.A_eq (tcOf (W3 m)) c w)

/-- The first host stretch's segment. -/
def host0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) E

/-- The last host stretch's segment. -/
def host3 : HostSeg (Ix := Unit) (Name := ℕ) (U := UR sig nD τ) (Lvl := ℕ) (pcfgs (F := F)) defs₀ Variants.none L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W4 m) E

/-- @main's items as segments. -/
abbrev segList (_ : Dev nD) : List (Seg (pcfgs (F := F)) adm (pdats m) () defs₀ Variants.none L lv) :=
  [.host (host0 m), .region (reg0 m), .region (reg1 m), .region (reg2 m), .host (host3 m)]

/-- Call 0's arrays are unscoped. -/
theorem arrs0 : Pipeline.arrRefs (τ := τ) (pcfgs (F := F) 0).spec ⊆ Pipeline.ucRefs τ sig :=
  Pipeline.arrRefs_sub_ucRefs spec0 (by decide)
/-- Call 1's arrays are unscoped. -/
theorem arrs1 : Pipeline.arrRefs (τ := τ) (pcfgs (F := F) 1).spec ⊆ Pipeline.ucRefs τ sig :=
  Pipeline.arrRefs_sub_ucRefs spec1 (by decide)
/-- Call 2's arrays are unscoped. -/
theorem arrs2 : Pipeline.arrRefs (τ := τ) (pcfgs (F := F) 2).spec ⊆ Pipeline.ucRefs τ sig :=
  Pipeline.arrRefs_sub_ucRefs spec2 (by decide)

set_option backward.isDefEq.respectTransparency.types false in
/-- The spectral call is entered from what the first host stretch leaves. -/
theorem reg0_pre (c : Dev nD) : iprop(StableHlo.held (c : Thread nD τ) (Pipeline.ucRefs τ sig) (W1 m c) ∗ E c) ⊢ (reg0 (F := F) m).pre c := by
  have h := RegionSeg.ofHeldIn_pre (pcs := pcfgs (F := F)) (a := adm) (pdats := pdats m) (ι := ()) (defs₀ := defs₀) (𝒱₀ := Variants.none) (L := L)
    (lv := lv) (S := Pipeline.ucRefs τ sig) (p := 0) (D := fun _ => 0) (X := X) (Y := X) (R := fun _ => iprop(emp)) (W := W1 m) (arrs0 (F := F))
    (kit := launch0.toP) (hK := rfl) (hbody := fun c => (Psd.body_obligation (tcOf (W1 m)) c).loose) (howed := fun _ _ => rfl) (hrec := fun _ => rfl)
    (hshare := fun c => (Psd.dat (tcOf (W1 m)) c).share_full fun _ => rfl) (hin := fun c => Psd.hin (tcOf (W1 m)) c) (hout := fun c => Psd.hout (tcOf (W1 m)) c)
    (b := fun _ => 0) (hcut := cut 0) (hW := fun c w => Psd.A_eq (tcOf (W1 m)) c w) c
  exact h
set_option backward.isDefEq.respectTransparency.types false in
/-- What it leaves. -/
theorem reg0_post (c : Dev nD) : (reg0 (F := F) m).post c ⊢ iprop(StableHlo.held (c : Thread nD τ) (Pipeline.ucRefs τ sig) (W2 m c) ∗ E c) := by
  rw [W2_eq]
  have h := RegionSeg.ofHeldIn_post (pcs := pcfgs (F := F)) (a := adm) (pdats := pdats m) (ι := ()) (defs₀ := defs₀) (𝒱₀ := Variants.none) (L := L)
    (lv := lv) (S := Pipeline.ucRefs τ sig) (p := 0) (D := fun _ => 0) (X := X) (Y := X) (R := fun _ => iprop(emp)) (W := W1 m) (arrs0 (F := F))
    (kit := launch0.toP) (hK := rfl) (hbody := fun c => (Psd.body_obligation (tcOf (W1 m)) c).loose) (howed := fun _ _ => rfl) (hrec := fun _ => rfl)
    (hshare := fun c => (Psd.dat (tcOf (W1 m)) c).share_full fun _ => rfl) (hin := fun c => Psd.hin (tcOf (W1 m)) c) (hout := fun c => Psd.hout (tcOf (W1 m)) c)
    (b := fun _ => 0) (hcut := cut 0) (hW := fun c w => Psd.A_eq (tcOf (W1 m)) c w) c
  exact h
set_option backward.isDefEq.respectTransparency.types false in
/-- The Gram call is entered from that. -/
theorem reg1_pre (c : Dev nD) : iprop(StableHlo.held (c : Thread nD τ) (Pipeline.ucRefs τ sig) (W2 m c) ∗ E c) ⊢ (reg1 (F := F) m).pre c := by
  have h := RegionSeg.ofHeldIn_pre (pcs := pcfgs (F := F)) (a := adm) (pdats := pdats m) (ι := ()) (defs₀ := defs₀) (𝒱₀ := Variants.none) (L := L)
    (lv := lv) (S := Pipeline.ucRefs τ sig) (p := 1) (D := fun _ => 0) (X := X) (Y := X) (R := fun _ => iprop(emp)) (W := W2 m) (arrs1 (F := F))
    (kit := launch1.toP) (hK := rfl) (hbody := fun c => (Gram.body_obligation (tcOf (W2 m)) c).loose) (howed := fun _ _ => rfl) (hrec := fun _ => rfl)
    (hshare := fun c => (Gram.dat (tcOf (W2 m)) c).share_full fun _ => rfl) (hin := fun c => .rfl) (hout := fun c => .rfl)
    (b := fun _ => 0) (hcut := cut 1) (hW := fun c w => Gram.A_eq (tcOf (W2 m)) c w) c
  exact h
set_option backward.isDefEq.respectTransparency.types false in
/-- What it leaves. -/
theorem reg1_post (c : Dev nD) : (reg1 (F := F) m).post c ⊢ iprop(StableHlo.held (c : Thread nD τ) (Pipeline.ucRefs τ sig) (W3 m c) ∗ E c) := by
  rw [W3_eq]
  have h := RegionSeg.ofHeldIn_post (pcs := pcfgs (F := F)) (a := adm) (pdats := pdats m) (ι := ()) (defs₀ := defs₀) (𝒱₀ := Variants.none) (L := L)
    (lv := lv) (S := Pipeline.ucRefs τ sig) (p := 1) (D := fun _ => 0) (X := X) (Y := X) (R := fun _ => iprop(emp)) (W := W2 m) (arrs1 (F := F))
    (kit := launch1.toP) (hK := rfl) (hbody := fun c => (Gram.body_obligation (tcOf (W2 m)) c).loose) (howed := fun _ _ => rfl) (hrec := fun _ => rfl)
    (hshare := fun c => (Gram.dat (tcOf (W2 m)) c).share_full fun _ => rfl) (hin := fun c => .rfl) (hout := fun c => .rfl)
    (b := fun _ => 0) (hcut := cut 1) (hW := fun c w => Gram.A_eq (tcOf (W2 m)) c w) c
  exact h
set_option backward.isDefEq.respectTransparency.types false in
/-- The last call is entered from that. -/
theorem reg2_pre (c : Dev nD) : iprop(StableHlo.held (c : Thread nD τ) (Pipeline.ucRefs τ sig) (W3 m c) ∗ E c) ⊢ (reg2 (F := F) m).pre c := by
  have h := RegionSeg.ofHeldIn_pre (pcs := pcfgs (F := F)) (a := adm) (pdats := pdats m) (ι := ()) (defs₀ := defs₀) (𝒱₀ := Variants.none) (L := L)
    (lv := lv) (S := Pipeline.ucRefs τ sig) (p := 2) (D := fun _ => 0) (X := X) (Y := X) (R := fun _ => iprop(emp)) (W := W3 m) (arrs2 (F := F))
    (kit := launch2.toP) (hK := rfl) (hbody := fun c => (Fin.body_obligation (tcOf (W3 m)) c).loose) (howed := fun _ _ => rfl) (hrec := fun _ => rfl)
    (hshare := fun c => (Fin.dat (tcOf (W3 m)) c).share_full fun _ => rfl) (hin := fun c => .rfl) (hout := fun c => .rfl)
    (b := fun _ => 0) (hcut := cut 2) (hW := fun c w => Fin.A_eq (tcOf (W3 m)) c w) c
  exact h
set_option backward.isDefEq.respectTransparency.types false in
/-- What it leaves. -/
theorem reg2_post (c : Dev nD) : (reg2 (F := F) m).post c ⊢ iprop(StableHlo.held (c : Thread nD τ) (Pipeline.ucRefs τ sig) (W4 m c) ∗ E c) := by
  rw [W4_eq]
  have h := RegionSeg.ofHeldIn_post (pcs := pcfgs (F := F)) (a := adm) (pdats := pdats m) (ι := ()) (defs₀ := defs₀) (𝒱₀ := Variants.none) (L := L)
    (lv := lv) (S := Pipeline.ucRefs τ sig) (p := 2) (D := fun _ => 0) (X := X) (Y := X) (R := fun _ => iprop(emp)) (W := W3 m) (arrs2 (F := F))
    (kit := launch2.toP) (hK := rfl) (hbody := fun c => (Fin.body_obligation (tcOf (W3 m)) c).loose) (howed := fun _ _ => rfl) (hrec := fun _ => rfl)
    (hshare := fun c => (Fin.dat (tcOf (W3 m)) c).share_full fun _ => rfl) (hin := fun c => .rfl) (hout := fun c => .rfl)
    (b := fun _ => 0) (hcut := cut 2) (hW := fun c w => Fin.A_eq (tcOf (W3 m)) c w) c
  exact h

/-! ## The argument is written by no item -/

theorem W5_arg0 (c : Dev nD) : W5 m c main_arg0 = m ((c : Thread nD τ).loc main_arg0) := by
  have h5 : W5 m c main_arg0 = W4 m c main_arg0 := StableHlo.after_of_writes_sub hostOps3 _ hostOps3_writes (by decide)
  have h4 : W4 m c main_arg0 = W3 m c main_arg0 :=
    Pipeline.afterRegion_keeps _ _ winFacts2.arr_inj (fun w => Fin.A_eq (tcOf (W3 m)) c w) main_arg0 (by decide)
  have h3 : W3 m c main_arg0 = W2 m c main_arg0 :=
    Pipeline.afterRegion_keeps _ _ winFacts1.arr_inj (fun w => Gram.A_eq (tcOf (W2 m)) c w) main_arg0 (by decide)
  have h2 : W2 m c main_arg0 = W1 m c main_arg0 :=
    Pipeline.afterRegion_keeps _ _ winFacts0.arr_inj (fun w => Psd.A_eq (tcOf (W1 m)) c w) main_arg0 (by decide)
  have h1 : W1 m c main_arg0 = V0 m c main_arg0 := StableHlo.after_of_writes_sub hostOps0 _ hostOps0_writes (by decide)
  rw [h5, h4, h3, h2, h1]

/-! ## The run -/

/-- The result and the argument at the end, and the counters. -/
def Post (r : PUnit × MemSt nD τ sig (Elt F)) : Prop :=
  (∀ c : Dev nD, r.2.mem ((c.tc : Thread nD τ).loc main_v34) = W5 m c main_v34
    ∧ r.2.mem ((c.tc : Thread nD τ).loc main_arg0) = m ((c.tc : Thread nD τ).loc main_arg0))
    ∧ r.2.sem = fun _ => 0

set_option backward.isDefEq.respectTransparency.types false in
/-- Every weakly fair execution of @main from memory `m` with zero counters terminates with the result at the last
    valuation, the argument as launched and every counter at zero. -/
theorem run : θ_run defs (onTc (τ := τ) (main (F := F))) ⟨m, fun _ => 0, ρ⟩ (Post m) := by
  refine Pipeline.θ_run_regions_kit_dev_sems (pcfgs (F := F)) adm (pdats m) () cellOf_inj emb₁ defs₀ Variants.none L lv m ρ main
    (segList m)
    (fun c Q => by
      rewrite [main_chain c, Seg.run_eq_chain,
        show (segList m c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [segList, Seg.pipes_host, Seg.pipes_region, Seg.pipes_nil]; decide) (O₀ := 0)
    (fun g hg => if_neg hg) (G := fun _ => iprop(emp))
    (u₀ := initOf (Pipeline.cells cfgs cellOf_inj) (Pipeline.launchToks cfgs cellOf_inj))
    (hu₀ := by
      iintro Hu
      ihave Hp := (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl) $$ Hu
      imodintro
      isplitl [Hp]; · iexact Hp
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E c))
    (Tₙ := fun c => StableHlo.held (c : Thread nD τ) (Pipeline.ucRefs τ sig) (W5 m c))
    (hch := fun c => ⟨.rfl, reg0_pre m c, (reg0_post m c).trans (reg1_pre m c), (reg1_post m c).trans (reg2_pre m c), reg2_post m c, ?_⟩)
    (hinit := ?_)
    (QY := fun c s => s.mem ((c.tc : Thread nD τ).loc main_v34) = W5 m c main_v34
      ∧ s.mem ((c.tc : Thread nD τ).loc main_arg0) = m ((c.tc : Thread nD τ).loc main_arg0))
    (hfin := fun c s' => ?_) (hQ := fun _ h hz => ⟨h, funext fun g => hz g (.inr (regions_no_unscoped g.2))⟩)
  · refine sep_mono .rfl ?_
    iintro ⟨HO, -, -⟩
    iexact HO
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, HP, -⟩, -⟩
    imodintro
    isplitl [Hh]; · iexact Hh
    isplitl [HO]; · iexists ∅; iexact HO
    isplitl [HP]; · iexists _; iexact HP
    iempintro
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro
      exact ⟨h (Proc.devRef .tc main_v34) (Finset.mem_filter.mpr ⟨StableHlo.devRef_mem_tcRefs main_v34, by decide⟩),
        (h (Proc.devRef .tc main_arg0) (Finset.mem_filter.mpr ⟨StableHlo.devRef_mem_tcRefs main_arg0, by decide⟩)).trans (W5_arg0 m c)⟩
    · iexact HSI

end Cert.KernelIdeal.Whole

end
-- ==== Proof.Claims.lean ====
module

public import proofs.«01_k».proof.Defs
public import proofs.«01_k».proof.Proof.Whole
public import proofs.«01_k».proof.Proof.WholeBits
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel as printed runs, leaves its argument alone and ends with every counter at zero. -/
theorem frame_p : Cert.quiescent_Kernel := fun m ρ _ =>
  (θ_run Cert.Kernel.defs _ _).mono (fun _ h => ⟨fun c => (h.1 c).2, h.2⟩)
    (Cert.Kernel.Whole.run (F := Bits) m ρ)

/-- The same of the kernel read over the extended reals. -/
theorem frame_pi : Cert.quiescent_KernelIdeal := fun m ρ _ =>
  (θ_run Cert.KernelIdeal.defs _ _).mono (fun _ h => ⟨fun c => (h.1 c).2, h.2⟩)
    (Cert.KernelIdeal.Whole.run (F := Ideal) m ρ)

/-- The same of the reference, which has host operations only and so no counter at all. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- No operation was rewritten. -/
theorem preserves : Cert.preserves_Kernel_KernelIdeal := trivial

end Cert.Proof

end
-- ==== Proof.Rel.lean ====
/- Extended reals up to the sign of infinity.

   The square of an extended real does not see the sign of an infinity, and sums, negations and products with a
   real respect the identification; so a transform may be rearranged under a square with no word on finiteness. -/
module

public import Mathlib.Data.EReal.Inv

@[expose] public section

namespace Cert.Spec

/-- Equal, or both infinite. -/
def Rel (x y : EReal) : Prop := x = y ∨ ((x = ⊤ ∨ x = ⊥) ∧ (y = ⊤ ∨ y = ⊥))

theorem Rel.refl (x : EReal) : Rel x x := .inl rfl

theorem Rel.of_eq {x y : EReal} (h : x = y) : Rel x y := .inl h

theorem Rel.symm {x y : EReal} (h : Rel x y) : Rel y x := by
  rcases h with h | h
  · exact .inl h.symm
  · exact .inr ⟨h.2, h.1⟩

theorem Rel.trans {x y z : EReal} (h : Rel x y) (k : Rel y z) : Rel x z := by
  rcases h with rfl | h
  · exact k
  · rcases k with rfl | k
    · exact .inr h
    · exact .inr ⟨h.1, k.2⟩

theorem Rel.neg {x y : EReal} (h : Rel x y) : Rel (-x) (-y) := by
  rcases h with rfl | ⟨rfl | rfl, rfl | rfl⟩ <;> simp [Rel]

/-- An infinity plus anything is infinite. -/
theorem inf_add {x : EReal} (h : x = ⊤ ∨ x = ⊥) (y : EReal) : x + y = ⊤ ∨ x + y = ⊥ := by
  rcases h with rfl | rfl
  · induction y using EReal.rec <;> simp
  · simp

theorem Rel.add {x y u v : EReal} (h : Rel x y) (k : Rel u v) : Rel (x + u) (y + v) := by
  rcases h with rfl | h
  · rcases k with rfl | k
    · exact .refl _
    · rw [add_comm x u, add_comm x v]
      exact .inr ⟨inf_add k.1 x, inf_add k.2 x⟩
  · exact .inr ⟨inf_add h.1 u, inf_add h.2 v⟩

theorem Rel.mul_coe {x y : EReal} (h : Rel x y) (r : ℝ) : Rel (x * (r : EReal)) (y * (r : EReal)) := by
  rcases lt_trichotomy r 0 with hr | rfl | hr
  · rcases h with rfl | ⟨rfl | rfl, rfl | rfl⟩ <;>
      simp [Rel, EReal.top_mul_coe_of_neg, EReal.bot_mul_coe_of_neg, hr]
  · simp [Rel]
  · rcases h with rfl | ⟨rfl | rfl, rfl | rfl⟩ <;>
      simp [Rel, EReal.top_mul_coe_of_pos, EReal.bot_mul_coe_of_pos, hr]

theorem Rel.sq {x y : EReal} (h : Rel x y) : x * x = y * y := by
  rcases h with rfl | ⟨rfl | rfl, rfl | rfl⟩ <;> simp

theorem Rel.sum {ι : Type} (s : Finset ι) {f g : ι → EReal} (h : ∀ i, Rel (f i) (g i)) :
    Rel (∑ i ∈ s, f i) (∑ i ∈ s, g i) := by
  classical
  induction s using Finset.induction_on with
  | empty => exact .refl _
  | insert a s ha ih =>
    rw [Finset.sum_insert ha, Finset.sum_insert ha]
    exact (h a).add ih

theorem Rel.neg_add (x y : EReal) : Rel (-(x + y)) (-x + -y) := by
  induction x using EReal.rec <;> induction y using EReal.rec <;>
    first
      | (simp [Rel]; done)
      | (refine .inl ?_; rw [← EReal.coe_add, ← EReal.coe_neg, ← EReal.coe_neg, ← EReal.coe_neg, ← EReal.coe_add,
          _root_.neg_add])

theorem Rel.neg_sum {ι : Type} (s : Finset ι) (f : ι → EReal) : Rel (-∑ i ∈ s, f i) (∑ i ∈ s, -f i) := by
  classical
  induction s using Finset.induction_on with
  | empty => simp [Rel]
  | insert a s ha ih =>
    rw [Finset.sum_insert ha, Finset.sum_insert ha]
    exact (Rel.neg_add _ _).trans ((Rel.refl _).add ih)

end Cert.Spec
-- ==== Proof.Spec.lean ====
/- The mathematics of the loss, over the samples as a function of three indices. -/
module

public import Idealize.ShloMosaic.Lib.Pointwise
public import Mathlib.Analysis.SpecialFunctions.Trigonometric.Basic
public import proofs.«01_k».proof.Proof.Rel

@[expose] public section

noncomputable section

namespace Cert.Spec

open Idealize.ShloMosaic

/-! ### The transform -/

/-- The angle of a table entry. -/
def ang (k h : ℕ) : ℝ := 2 * Real.pi / 320 * ((k * h : ℕ) : ℝ)

/-- The cosine table. -/
def cT (k h : ℕ) : EReal := ((Real.cos (ang k h) : ℝ) : EReal)

/-- The table of negated sines. -/
def sT (k h : ℕ) : EReal := ((-Real.sin (ang k h) : ℝ) : EReal)

theorem ang_comm (k h : ℕ) : ang k h = ang h k := by
  rw [ang, ang, Nat.mul_comm]

theorem cT_comm (k h : ℕ) : cT k h = cT h k := by
  rw [cT, cT, ang_comm]

theorem sT_comm (k h : ℕ) : sT k h = sT h k := by
  rw [sT, sT, ang_comm]

theorem ang_mirror (k h : ℕ) (hk : k ≤ 320) : ang (320 - k) h = (h : ℝ) * (2 * Real.pi) - ang k h := by
  unfold ang
  push_cast [Nat.cast_sub hk]
  ring

theorem cT_mirror (k h : ℕ) (hk : k ≤ 320) : cT (320 - k) h = cT k h := by
  rw [cT, cT, ang_mirror k h hk, Real.cos_nat_mul_two_pi_sub]

theorem sT_mirror (k h : ℕ) (hk : k ≤ 320) : sT (320 - k) h = -sT k h := by
  rw [sT, sT, ang_mirror k h hk, Real.sin_nat_mul_two_pi_sub, EReal.coe_neg, EReal.coe_neg]

/-- The opposite frequency. -/
def opp (l : Fin 320) : Fin 320 := ⟨(320 - l.val) % 320, by omega⟩

theorem opp_opp (l : Fin 320) : opp (opp l) = l := by
  apply Fin.ext
  unfold opp
  dsimp only
  omega

theorem opp_val (l : Fin 320) : (opp l).val = 320 - l.val ∨ (l.val = 0 ∧ (opp l).val = 0) := by
  unfold opp
  dsimp only
  omega

theorem cT_opp (h : ℕ) (l : Fin 320) : cT h (opp l).val = cT h l.val := by
  rcases opp_val l with e | ⟨e, e'⟩
  · rw [e, cT_comm, cT_mirror _ _ (by omega), cT_comm]
  · rw [e, e']

theorem sT_opp (h : ℕ) (l : Fin 320) : sT h (opp l).val = -sT h l.val := by
  rcases opp_val l with e | ⟨e, e'⟩
  · rw [e, sT_comm, sT_mirror _ _ (by omega), sT_comm]
  · rw [e, e']
    simp [sT, ang]

/-- Samples, rows and columns. -/
abbrev Samples := Fin 256 → Fin 320 → Fin 320 → EReal

variable (x : Samples)

/-- The cosine transform of the rows. -/
def ra (n : Fin 256) (k : ℕ) (w : Fin 320) : EReal := ∑ h : Fin 320, x n h w * cT k h.val

/-- The sine transform of the rows. -/
def rb (n : Fin 256) (k : ℕ) (w : Fin 320) : EReal := ∑ h : Fin 320, x n h w * sT k h.val

/-- The real part of the transform. -/
def re (n : Fin 256) (k : ℕ) (l : ℕ) : EReal :=
  ∑ w : Fin 320, ra x n k w * cT w.val l - ∑ w : Fin 320, rb x n k w * sT w.val l

/-- The imaginary part of the transform. -/
def im (n : Fin 256) (k : ℕ) (l : ℕ) : EReal :=
  ∑ w : Fin 320, ra x n k w * sT w.val l + ∑ w : Fin 320, rb x n k w * cT w.val l

/-- The mean square modulus. -/
def psd (k l : ℕ) : EReal :=
  Ideal.div (∑ n : Fin 256, (re x n k l * re x n k l + im x n k l * im x n k l)) (Ideal.ofBits .f32 0x43800000#32)

/-- Rearranged: the sine products enter the real part with the table negated. -/
theorem re_rel (n : Fin 256) (k l : ℕ) :
    Rel (∑ w : Fin 320, ra x n k w * cT w.val l + ∑ w : Fin 320, rb x n k w * -sT w.val l) (re x n k l) := by
  unfold re
  rw [sub_eq_add_neg]
  refine (Rel.refl _).add (Rel.symm ((Rel.neg_sum _ _).trans (.of_eq ?_)))
  exact Finset.sum_congr rfl fun w _ => (mul_neg _ _).symm

theorem ra_mirror (n : Fin 256) (k : ℕ) (hk : k ≤ 320) (w : Fin 320) : ra x n (320 - k) w = ra x n k w := by
  unfold ra
  exact Finset.sum_congr rfl fun h _ => by rw [cT_mirror _ _ hk]

theorem rb_mirror (n : Fin 256) (k : ℕ) (hk : k ≤ 320) (w : Fin 320) : Rel (rb x n (320 - k) w) (-rb x n k w) := by
  unfold rb
  refine Rel.trans (.of_eq ?_) (Rel.neg_sum _ _).symm
  exact Finset.sum_congr rfl fun h _ => by rw [sT_mirror _ _ hk, mul_neg]

theorem re_mirror (n : Fin 256) (k : ℕ) (hk : k ≤ 320) (l : Fin 320) :
    Rel (re x n (320 - k) (opp l).val) (re x n k l.val) := by
  refine (re_rel x n _ _).symm.trans (Rel.trans (Rel.add (Rel.of_eq ?_) (Rel.sum _ fun w => ?_)) (re_rel x n k l.val))
  · exact Finset.sum_congr rfl fun w _ => by rw [ra_mirror _ _ _ hk, cT_opp]
  · rw [sT_opp, neg_neg, mul_neg, ← neg_mul]
    exact (rb_mirror x n k hk w).mul_coe _

theorem im_mirror (n : Fin 256) (k : ℕ) (hk : k ≤ 320) (l : Fin 320) :
    Rel (im x n (320 - k) (opp l).val) (-im x n k l.val) := by
  unfold im
  refine Rel.trans (Rel.add ?_ ?_) (Rel.neg_add _ _).symm
  · refine Rel.trans (.of_eq ?_) (Rel.neg_sum _ _).symm
    exact Finset.sum_congr rfl fun w _ => by rw [ra_mirror _ _ _ hk, sT_opp, mul_neg]
  · refine Rel.trans (Rel.sum _ fun w => ?_) (Rel.neg_sum _ _).symm
    rw [cT_opp, ← neg_mul]
    exact (rb_mirror x n k hk w).mul_coe _

/-- The spectrum at the opposite frequency is the same. -/
theorem psd_mirror (k : ℕ) (hk : k ≤ 320) (l : Fin 320) : psd x (320 - k) (opp l).val = psd x k l.val := by
  unfold psd
  congr 1
  refine Finset.sum_congr rfl fun n _ => ?_
  rw [(re_mirror x n k hk l).sq, (im_mirror x n k hk l).sq, neg_mul_neg]

/-! ### The loss -/

/-- Whether two samples are of one group of four. -/
def grp (a b : Fin 256) : Prop := a.val / 4 = b.val / 4

instance (a b : Fin 256) : Decidable (grp a b) := inferInstanceAs (Decidable (_ = _))

/-- Entry `e` of a sample laid out flat. -/
def flat (a : Fin 256) (e : Fin 102400) : EReal := x a ⟨e.val / 320, by omega⟩ ⟨e.val % 320, by omega⟩

/-- The inner product of two samples. -/
def gram (a b : Fin 256) : EReal := ∑ e : Fin 102400, flat x a e * flat x b e

/-- The sum of a sample. -/
def tally (a : Fin 256) : EReal := ∑ e : Fin 102400, flat x a e

/-- The distance of two samples, from inner products `g` and sums `s`. -/
def gap (g : Fin 256 → Fin 256 → EReal) (s : Fin 256 → EReal) (a b : Fin 256) : EReal :=
  Ideal.sqrt (max (g a a + g b b - Ideal.ofBits .f32 0x40000000#32 * g a b
    + Ideal.ofBits .f32 0x360637BD#32 * (s a - s b) + Ideal.ofBits .f32 0x33DBE6FF#32) 0)

/-- The negated distance of a pair of one group. -/
def pos (D : Fin 256 → Fin 256 → EReal) (a b : Fin 256) : EReal := if a < b ∧ grp a b then -D a b else 0

/-- The sum of the negated distances of all pairs. -/
def tot (D : Fin 256 → Fin 256 → EReal) : EReal := ∑ a : Fin 256, ∑ b : Fin 256, if a < b then -D a b else 0

/-- The loss from the distances. -/
def loss (D : Fin 256 → Fin 256 → EReal) : EReal :=
  ∑ b : Fin 256, -Ideal.log (∑ a : Fin 256, (Ideal.div (pos D a b) (tot D) + Ideal.div (pos D b a) (tot D)))

/-- The regularizer's combination of the two sums over the spectrum. -/
def fin (L sl sp : EReal) : EReal :=
  L - Ideal.ofBits .f32 0x3DCCCCCD#32 * (Ideal.div sl (Ideal.ofBits .f32 0x47C80000#32)
    - Ideal.log (Ideal.div sp (Ideal.ofBits .f32 0x47C80000#32)))

/-- The whole result. -/
def out : EReal :=
  fin (loss (gap (gram x) (tally x))) (∑ k : Fin 320, ∑ l : Fin 320, Ideal.log (psd x k.val l.val))
    (∑ k : Fin 320, ∑ l : Fin 320, psd x k.val l.val)

/-! ### Sums -/

/-- The rows past the middle repeat the rows before it. -/
theorem sum_mirror (f : ℕ → EReal) (h : ∀ k, 1 ≤ k → k ≤ 159 → f (320 - k) = f k) :
    ∑ k : Fin 320, f k.val = f 0 + (∑ k ∈ Finset.Ico 1 160, (f k + f k)) + f 160 := by
  rw [Fin.sum_univ_eq_sum_range, Finset.range_eq_Ico, ← Finset.sum_Ico_consecutive f (by omega : 0 ≤ 161) (by omega : 161 ≤ 320),
    Finset.sum_Ico_succ_top (by omega : 0 ≤ 160), Finset.sum_eq_sum_Ico_succ_bot (by omega : 0 < 160)]
  have e : ∑ k ∈ Finset.Ico 161 320, f k = ∑ k ∈ Finset.Ico 1 160, f k := by
    have r := Finset.sum_Ico_reflect f 1 (show 160 ≤ 320 + 1 by omega)
    rw [show 320 + 1 - 160 = 161 by omega, show 320 + 1 - 1 = 320 by omega] at r
    rw [← r]
    refine Finset.sum_congr rfl fun k hk => ?_
    rw [Finset.mem_Ico] at hk
    exact h k hk.1 (by omega)
  rw [e, Finset.sum_add_distrib]
  abel

/-- A row of the spectrum sums as the opposite row. -/
theorem row_mirror (F : EReal → EReal) (k : ℕ) (hk : k ≤ 320) :
    ∑ l : Fin 320, F (psd x (320 - k) l.val) = ∑ l : Fin 320, F (psd x k l.val) := by
  refine (Fintype.sum_equiv ⟨opp, opp, opp_opp, opp_opp⟩ _ _ fun l => ?_).symm
  exact congrArg F (psd_mirror x k hk l).symm

/-- The weights of the rows kept. -/
def wt (k : ℕ) : EReal := if k = 0 ∨ k = 160 then 1 else if k < 160 then 1 + 1 else 0

theorem two_mul' (y : EReal) : (1 + 1) * y = y + y := by
  rw [EReal.right_distrib_of_nonneg zero_le_one zero_le_one, one_mul]

/-- The weighted sum over the rows kept is the sum over all the rows. -/
theorem sum_wt (F : EReal → EReal) :
    ∑ k : Fin 168, ∑ l : Fin 320, wt k.val * F (psd x k.val l.val)
      = ∑ k : Fin 320, ∑ l : Fin 320, F (psd x k.val l.val) := by
  rw [sum_mirror (fun k => ∑ l : Fin 320, F (psd x k l.val)) fun k _ hk => row_mirror x F k (by omega)]
  rw [Fin.sum_univ_eq_sum_range (fun k => ∑ l : Fin 320, wt k * F (psd x k l.val)), Finset.range_eq_Ico,
    ← Finset.sum_Ico_consecutive _ (by omega : 0 ≤ 161) (by omega : 161 ≤ 168),
    Finset.sum_Ico_succ_top (by omega : 0 ≤ 160), Finset.sum_eq_sum_Ico_succ_bot (by omega : 0 < 160)]
  have z : ∑ k ∈ Finset.Ico 161 168, ∑ l : Fin 320, wt k * F (psd x k l.val) = 0 := by
    refine Finset.sum_eq_zero fun k hk => Finset.sum_eq_zero fun l _ => ?_
    rw [Finset.mem_Ico] at hk
    rw [wt, if_neg (by omega), if_neg (by omega), zero_mul]
  have m : ∑ k ∈ Finset.Ico (0 + 1) 160, ∑ l : Fin 320, wt k * F (psd x k l.val)
      = ∑ k ∈ Finset.Ico 1 160, (∑ l : Fin 320, F (psd x k l.val) + ∑ l : Fin 320, F (psd x k l.val)) := by
    refine Finset.sum_congr rfl fun k hk => ?_
    rw [Finset.mem_Ico] at hk
    rw [← Finset.sum_add_distrib]
    refine Finset.sum_congr rfl fun l _ => ?_
    rw [wt, if_neg (by omega), if_pos (by omega), two_mul']
  rw [z, m, add_zero]
  simp [wt]

end Cert.Spec

end
-- ==== Proof.Words.lean ====
/- Words at small indices, and the tables' constants. -/
module

public import proofs.«01_k».proof.Proof.Spec

@[expose] public section

noncomputable section

namespace Cert.Spec

open Idealize.ShloMosaic

theorem sgt_eq (a b : Fin 256) :
    IntOp.cmpi .sgt (BitVec.ofNat 32 b.val) (BitVec.ofNat 32 a.val) = BitVec.ofBool (decide (a < b)) := by
  unfold IntOp.cmpi
  congr 1
  dsimp only
  rw [BitVec.slt, BitVec.toInt_eq_toNat_bmod, BitVec.toInt_eq_toNat_bmod, BitVec.toNat_ofNat, BitVec.toNat_ofNat,
    Nat.mod_eq_of_lt (by omega), Nat.mod_eq_of_lt (by omega), Int.bmod_eq_of_le (by omega) (by omega),
    Int.bmod_eq_of_le (by omega) (by omega), decide_eq_decide, Fin.lt_def, Int.ofNat_lt]

theorem select_and {α : Type} (p q : Prop) [Decidable p] [Decidable q] (y z : α) :
    Scalar.select (IntOp.andi (BitVec.ofBool (decide p)) (BitVec.ofBool (decide q))) y z = if p ∧ q then y else z := by
  by_cases hp : p <;> by_cases hq : q <;> simp [hp, hq, Scalar.select, IntOp.andi]

theorem select_and_not {α : Type} (p q : Prop) [Decidable p] [Decidable q] (y z : α) :
    Scalar.select (IntOp.andi (BitVec.ofBool (decide p)) (~~~BitVec.ofBool (decide q))) y z = if p ∧ ¬q then y else z := by
  by_cases hp : p <;> by_cases hq : q <;> simp [hp, hq, Scalar.select, IntOp.andi]

theorem select_one {α : Type} (p : Prop) [Decidable p] (y z : α) :
    Scalar.select (BitVec.ofBool (decide p)) y z = if p then y else z := by
  by_cases hp : p <;> simp [hp, Scalar.select]

/-- The host's quotient by four of a sample's index, rounded down. -/
def hostQuot (a : ℕ) : BitVec 32 :=
  Scalar.select
    (IntOp.andi
      (IntOp.cmpi .ne (if BitVec.ofNat 32 a = 0 then (0 : BitVec 32) else if (BitVec.ofNat 32 a).msb = true then -1 else 1)
        (if 4#32 = 0 then (0 : BitVec 32) else if (4#32).msb = true then -1 else 1))
      (IntOp.cmpi .ne (IntOp.remsi .host (BitVec.ofNat 32 a) 4#32) 0#32))
    (IntOp.subi (IntOp.divsi .host (BitVec.ofNat 32 a) 4#32) 1#32)
    (IntOp.divsi .host (BitVec.ofNat 32 a) 4#32)

theorem hostQuot_eq : ∀ a : Fin 256, hostQuot a.val = BitVec.ofNat 32 (a.val / 4) := by
  decide +kernel

theorem quot_inj (a b : Fin 256) : (BitVec.ofNat 32 (a.val / 4) = BitVec.ofNat 32 (b.val / 4)) ↔ grp a b := by
  unfold grp
  rw [← BitVec.toNat_inj, BitVec.toNat_ofNat, BitVec.toNat_ofNat, Nat.mod_eq_of_lt (by omega), Nat.mod_eq_of_lt (by omega)]

theorem cmpi_eq_ofBool (u v : BitVec 32) (p : Prop) [Decidable p] (h : u = v ↔ p) :
    IntOp.cmpi .eq u v = BitVec.ofBool (decide p) := by
  unfold IntOp.cmpi
  congr 1
  rw [Bool.eq_iff_iff]
  simp [h]

theorem same_host (a b : Fin 256) :
    IntOp.cmpi .eq (hostQuot a.val) (hostQuot b.val) = BitVec.ofBool (decide (grp a b)) := by
  rw [hostQuot_eq, hostQuot_eq]
  exact cmpi_eq_ofBool _ _ _ (quot_inj a b)

/-! ### The constants -/

theorem ofBits_two : Ideal.ofBits .f32 0x40000000#32 = ((2 : ℝ) : EReal) := by
  simp [Ideal.ofBits, Ideal.ieee, -EReal.coe_mul]; norm_num

theorem ofBits_neg_two : Ideal.ofBits .f32 0xC0000000#32 = ((-2 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

theorem ofBits_320 : Ideal.ofBits .f32 0x43A00000#32 = ((320 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem ofBits_inv_256 : Ideal.ofBits .f32 0x3B800000#32 = ((1 / 256 : ℝ) : EReal) := by
  simp [Ideal.ofBits, Ideal.ieee, -EReal.coe_mul]; norm_num

theorem atan2_pi : Ideal.atan2 0 (Ideal.ofBits .f32 0xBF800000#32) = ((Real.pi : ℝ) : EReal) := by
  have e : ∀ y x : ℝ, Ideal.atan2 (y : EReal) (x : EReal) = ((if 0 < x then Real.arctan (y / x)
      else if x < 0 then (if 0 ≤ y then Real.arctan (y / x) + Real.pi else Real.arctan (y / x) - Real.pi)
      else if 0 < y then Real.pi / 2 else if y < 0 then -(Real.pi / 2) else 0 : ℝ) : EReal) := fun _ _ => rfl
  rw [ofBits_neg_one, ← EReal.coe_zero, e, if_neg (by norm_num), if_pos (by norm_num), if_pos (by norm_num)]
  simp

/-- The angle step. -/
theorem step_eq : Ideal.div (Ideal.ofBits .f32 0x40000000#32 * Ideal.atan2 0 (Ideal.ofBits .f32 0xBF800000#32))
    (Ideal.ofBits .f32 0x43A00000#32) = ((2 * Real.pi / 320 : ℝ) : EReal) := by
  rw [atan2_pi, ofBits_two, ofBits_320, Ideal.div_coe (by norm_num), ← EReal.coe_mul, ← EReal.coe_mul]
  congr 1
  ring

/-- The angle step, negated. -/
theorem neg_step_eq : Ideal.div (Ideal.ofBits .f32 0xC0000000#32 * Ideal.atan2 0 (Ideal.ofBits .f32 0xBF800000#32))
    (Ideal.ofBits .f32 0x43A00000#32) = ((-(2 * Real.pi / 320) : ℝ) : EReal) := by
  rw [atan2_pi, ofBits_neg_two, ofBits_320, Ideal.div_coe (by norm_num), ← EReal.coe_mul, ← EReal.coe_mul]
  congr 1
  ring

theorem muli_toInt (k h : Fin 320) :
    (IntOp.muli (BitVec.ofNat 32 k.val) (BitVec.ofNat 32 h.val)).toInt = ((k.val * h.val : ℕ) : ℤ) := by
  unfold IntOp.muli
  have hb : k.val * h.val ≤ 320 * 320 := Nat.mul_le_mul (by omega) (by omega)
  rw [← BitVec.ofNat_mul, BitVec.toInt_eq_toNat_bmod, BitVec.toNat_ofNat, Nat.mod_eq_of_lt (by omega),
    Int.bmod_eq_of_le (by omega) (by omega)]

theorem cos_eq (k h : Fin 320) :
    Ideal.cos (Ideal.div (Ideal.ofBits .f32 0x40000000#32 * Ideal.atan2 0 (Ideal.ofBits .f32 0xBF800000#32))
      (Ideal.ofBits .f32 0x43A00000#32)
        * FloatOps.sitofp (F := Ideal) .f32 (IntOp.muli (BitVec.ofNat 32 k.val) (BitVec.ofNat 32 h.val))) = cT k.val h.val := by
  have e : FloatOps.sitofp (F := Ideal) .f32 (IntOp.muli (BitVec.ofNat 32 k.val) (BitVec.ofNat 32 h.val))
      = (((k.val * h.val : ℕ) : ℝ) : EReal) := by
    show (((IntOp.muli (BitVec.ofNat 32 k.val) (BitVec.ofNat 32 h.val)).toInt : ℝ) : EReal) = _
    rw [muli_toInt, Int.cast_natCast]
  rw [step_eq, e, ← EReal.coe_mul, Ideal.cos_coe]
  rfl

theorem sin_eq (k h : Fin 320) :
    -Ideal.sin (Ideal.div (Ideal.ofBits .f32 0x40000000#32 * Ideal.atan2 0 (Ideal.ofBits .f32 0xBF800000#32))
      (Ideal.ofBits .f32 0x43A00000#32)
        * FloatOps.sitofp (F := Ideal) .f32 (IntOp.muli (BitVec.ofNat 32 k.val) (BitVec.ofNat 32 h.val))) = sT k.val h.val := by
  have e : FloatOps.sitofp (F := Ideal) .f32 (IntOp.muli (BitVec.ofNat 32 k.val) (BitVec.ofNat 32 h.val))
      = (((k.val * h.val : ℕ) : ℝ) : EReal) := by
    show (((IntOp.muli (BitVec.ofNat 32 k.val) (BitVec.ofNat 32 h.val)).toInt : ℝ) : EReal) = _
    rw [muli_toInt, Int.cast_natCast]
  rw [step_eq, e, ← EReal.coe_mul, Ideal.sin_coe, ← EReal.coe_neg]
  rfl

end Cert.Spec

end
-- ==== Proof.Tables.lean ====
/- The tables the host hands the kernels. -/
module

public import proofs.«01_k».proof.Proof.Whole
public import proofs.«01_k».proof.Proof.Words
public import Idealize.ShloMosaic.Lib.StableHlo.ReadAt

@[expose] public section

set_option maxRecDepth 16384

noncomputable section

namespace Cert.KernelIdeal.Tables

open Cert.KernelIdeal Cert.KernelIdeal.Gen Cert.Spec
open Idealize.ShloMosaic Idealize.ShloMosaic.TcCoe

/-- The kernel's angle, reduced to one turn. -/
def kang (k h : ℕ) : EReal :=
  Ideal.div (Ideal.ofBits .f32 0xC0000000#32 * Ideal.atan2 0 (Ideal.ofBits .f32 0xBF800000#32)) (Ideal.ofBits .f32 0x43A00000#32)
    * FloatOps.sitofp (F := Ideal) .f32 (IntOp.remsi .host (IntOp.muli (BitVec.ofNat 32 k) (BitVec.ofNat 32 h)) 320#32)

theorem rem_toInt (k h : ℕ) (hk : k < 320) (hh : h < 320) :
    (IntOp.remsi .host (IntOp.muli (BitVec.ofNat 32 k) (BitVec.ofNat 32 h)) 320#32).toInt = ((k * h % 320 : ℕ) : ℤ) := by
  have e := muli_toInt ⟨k, hk⟩ ⟨h, hh⟩
  dsimp only at e
  have d : ¬ IntOp.SDivCorner (IntOp.muli (BitVec.ofNat 32 k) (BitVec.ofNat 32 h)) 320#32 := by
    rintro (z | ⟨_, z⟩)
    · exact absurd z (by decide)
    · exact absurd z (by decide)
  unfold IntOp.remsi
  rw [if_neg d, BitVec.toInt_srem, e, show (320#32).toInt = ((320 : ℕ) : ℤ) from by decide, Int.ofNat_tmod]

theorem kang_eq (k h : ℕ) (hk : k < 320) (hh : h < 320) :
    kang k h = ((-(ang k h - ((k * h / 320 : ℕ) : ℝ) * (2 * Real.pi)) : ℝ) : EReal) := by
  have e : FloatOps.sitofp (F := Ideal) .f32 (IntOp.remsi .host (IntOp.muli (BitVec.ofNat 32 k) (BitVec.ofNat 32 h)) 320#32)
      = (((k * h % 320 : ℕ) : ℝ) : EReal) := by
    show (((IntOp.remsi .host (IntOp.muli (BitVec.ofNat 32 k) (BitVec.ofNat 32 h)) 320#32).toInt : ℝ) : EReal) = _
    rw [rem_toInt k h hk hh, Int.cast_natCast]
  unfold kang ang
  rw [neg_step_eq, e, ← EReal.coe_mul]
  congr 1
  have n : ((k * h : ℕ) : ℝ) = 320 * ((k * h / 320 : ℕ) : ℝ) + ((k * h % 320 : ℕ) : ℝ) := by
    exact_mod_cast (Nat.div_add_mod (k * h) 320).symm
  rw [n]
  ring

theorem kcos (k h : ℕ) (hk : k < 320) (hh : h < 320) : Ideal.cos (kang k h) = cT k h := by
  rw [kang_eq k h hk hh, Ideal.cos_coe, Real.cos_neg, Real.cos_sub_nat_mul_two_pi]
  rfl

theorem ksin (k h : ℕ) (hk : k < 320) (hh : h < 320) : Ideal.sin (kang k h) = sT k h := by
  rw [kang_eq k h hk hh, Ideal.sin_coe, Real.sin_neg, Real.sin_sub_nat_mul_two_pi]
  rfl

theorem lit_eq : ∀ k : Fin 168, lit0 (S168.rowMajor (ix1 k))
    = if k.val = 0 ∨ k.val = 160 then 0x3F800000#32 else if k.val < 160 then 0x40000000#32 else 0x00000000#32 := by
  decide +kernel

theorem lit_wt (k : Fin 168) : Ideal.ofBits .f32 (lit0 (S168.rowMajor (ix1 k))) = wt k.val := by
  rw [lit_eq]
  unfold wt
  split_ifs
  · exact Ideal.ofBits_one_f32
  · rw [ofBits_two, ← EReal.coe_one, ← EReal.coe_add]
    norm_num
  · exact Ideal.ofBits_zero_f32

variable (m : (ℓ : Loc nD τ sig) → Buf (Elt Ideal) ℓ) (c : Dev nD)

theorem v28_at (n : Fin 256) (h w : Fin 320) :
    Whole.W1 (F := Ideal) m c main_v28 (ix3 n h w) = m ((c : Thread nD τ).loc main_arg0) (ix3 n h w) := by
  unfold Whole.W1
  after_reads_at

theorem v26_at (k : Fin 168) (l : Fin 320) :
    Whole.W1 (F := Ideal) m c main_v26 (ix2 k l) = wt k.val := by
  rw [← lit_wt]
  unfold Whole.W1
  after_reads_at

theorem v27_lo (k : Fin 168) (h : Fin 320) (hk : k.val < 161) :
    Whole.W1 (F := Ideal) m c main_v27 (ix2 ⟨k.val, by omega⟩ h) = cT k.val h.val := by
  rw [← kcos k.val h.val (by omega) h.isLt]
  unfold Whole.W1 kang
  after_reads_at
  rw [dif_pos hk]
  after_reads_at

theorem v27_hi (k : Fin 168) (h : Fin 320) (hk : k.val < 161) :
    Whole.W1 (F := Ideal) m c main_v27 (ix2 ⟨168 + k.val, by omega⟩ h) = sT k.val h.val := by
  rw [← ksin k.val h.val (by omega) h.isLt]
  unfold Whole.W1 kang
  after_reads_at
  rw [dif_neg (by omega), dif_neg (by omega), dif_pos (by omega)]
  after_reads_at
  rw [show 168 + k.val - 161 - 7 = k.val by omega]

theorem v24_cc (w l : Fin 320) :
    Whole.W1 (F := Ideal) m c main_v24 (ix2 ⟨w.val, by omega⟩ ⟨l.val, by omega⟩) = cT w.val l.val := by
  rw [← kcos w.val l.val w.isLt l.isLt]
  unfold Whole.W1 kang
  after_reads_at
  refine (congrFun (StableHlo.binary_result _ _ _ _ _ _ _ _) _).trans ?_
  after_reads_at

theorem v24_cs (w l : Fin 320) :
    Whole.W1 (F := Ideal) m c main_v24 (ix2 ⟨w.val, by omega⟩ ⟨320 + l.val, by omega⟩) = sT w.val l.val := by
  rw [← ksin w.val l.val w.isLt l.isLt]
  unfold Whole.W1 kang
  after_reads_at
  refine (congrFun (StableHlo.binary_result _ _ _ _ _ _ _ _) _).trans ?_
  after_reads_at

theorem v24_sc (w l : Fin 320) :
    Whole.W1 (F := Ideal) m c main_v24 (ix2 ⟨384 + w.val, by omega⟩ ⟨l.val, by omega⟩) = -sT w.val l.val := by
  rw [← ksin w.val l.val w.isLt l.isLt]
  unfold Whole.W1 kang
  after_reads_at
  rw [dif_neg (by omega), dif_neg (by omega), dif_pos (by omega)]
  after_reads_at
  rw [show 384 + w.val - 320 - 64 = w.val by omega]

theorem v24_ss (w l : Fin 320) :
    Whole.W1 (F := Ideal) m c main_v24 (ix2 ⟨384 + w.val, by omega⟩ ⟨320 + l.val, by omega⟩) = cT w.val l.val := by
  rw [← kcos w.val l.val w.isLt l.isLt]
  unfold Whole.W1 kang
  after_reads_at
  rw [dif_neg (by omega), dif_neg (by omega), dif_pos (by omega)]
  after_reads_at
  rw [show 384 + w.val - 320 - 64 = w.val by omega]

end Cert.KernelIdeal.Tables

end
-- ==== Proof.GramPay.lean ====
/- What one step of the Gram kernel computes, at an index. -/
module

public import proofs.«01_k».proof.Proof.Gen.KernelIdeal.Skeleton
public import Idealize.ShloMosaic.Lib.Pointwise

@[expose] public section

set_option maxRecDepth 16384

noncomputable section

namespace Cert.KernelIdeal.Gram

open Cert.KernelIdeal Cert.KernelIdeal.Gen
open Idealize.ShloMosaic Idealize.ShloMosaic.TcCoe

/-- Entry `d` of sample `a`'s rows of a block, laid out flat. -/
def flat (y : S256x40x320.Idx → EReal) (a : Fin 256) (d : Fin 12800) : EReal :=
  y (ix3 a ⟨d.val / 320, by omega⟩ ⟨d.val % 320, by omega⟩)

theorem gram_0 (y : S256x40x320.Idx → EReal) (a b : Fin 256) :
    k1_pay4 (F := Ideal) y (ix3 0 a b) = ∑ d : Fin 12800, flat y a d * flat y b d := by
  unfold flat
  pointwise [k1_pay4, k1_pay2, k1_pay1]

theorem gram_1 (y : S256x40x320.Idx → EReal) (o : S1x256x256.Idx → EReal) (a b : Fin 256) :
    k1_pay6 (F := Ideal) y o (ix3 0 a b) = o (ix3 0 a b) + ∑ d : Fin 12800, flat y a d * flat y b d := by
  unfold flat
  pointwise [k1_pay6, k1_pay2, k1_pay1]

theorem aux_0 (y : S256x40x320.Idx → EReal) (b : Fin 256) :
    k1_pay5 (F := Ideal) y (ix3 0 0 b) = ∑ d : Fin 12800, flat y b d := by
  unfold flat
  pointwise [k1_pay5, k1_pay3, k1_pay1]

theorem aux_1 (y : S256x40x320.Idx → EReal) (o : S1x8x256.Idx → EReal) (b : Fin 256) :
    k1_pay7 (F := Ideal) y o (ix3 0 0 b) = o (ix3 0 0 b) + ∑ d : Fin 12800, flat y b d := by
  unfold flat
  pointwise [k1_pay7, k1_pay3, k1_pay1]

end Cert.KernelIdeal.Gram

end
-- ==== Proof.GramArr.lean ====
/- The arrays the Gram kernel leaves: per core, products of samples and sums of samples over that core's half of the entries. -/
module

public import proofs.«01_k».proof.Proof.GramBody
public import proofs.«01_k».proof.Proof.GramPay
public import Idealize.ShloMosaic.Lib.Pipeline.ValueKit

@[expose] public section

set_option maxRecDepth 16384

noncomputable section

namespace Cert.KernelIdeal.Gram

open Cert.KernelIdeal Cert.KernelIdeal.Gen
open Idealize.ShloMosaic Idealize.ShloMosaic.TcCoe
open Idealize.ShloMosaic.Pipeline (Dat)

theorem hz3 : (![0, 0, 0] : Fin 3 → ℕ) = fun _ => 0 := funext fun a => by fin_cases a <;> rfl

section
variable (c : Dev nD) (i : grid1.Coords) (arg2 : Memref sig .tc .vmem S256x40x320 .bf16) (harg2 : arg2.IsWhole) (arg3 : Memref sig .tc .vmem S1x256x256 .f32) (harg3 : arg3.IsWhole) (arg4 : Memref sig .tc .vmem S1x8x256 .f32) (harg4 : arg4.IsWhole)

theorem rd_in (x0 : Vec Ideal S256x40x320 .bf16) (inb : ∀ a, (![0, 0, 0] : Fin 3 → ℕ) a + S256x40x320.size a ≤ S256x40x320.size a) :
    View.readAt (Elt Ideal) arg2.view (Rect.unit (s := S256x40x320) ![0, 0, 0] S256x40x320.size inb).toLoadRect (harg2.unread x0) = x0 := by
  rw [View.readAt_eq_ld, harg2.read_unread]
  exact View.ld_unit_zero (S := S256x40x320) hz3 inb x0

theorem rd_1 (x : Vec Ideal S1x256x256 .f32) (inb : ∀ a, (![0, 0, 0] : Fin 3 → ℕ) a + S1x256x256.size a ≤ S1x256x256.size a) :
    View.readAt (Elt Ideal) arg3.view (Rect.unit (s := S1x256x256) ![0, 0, 0] S1x256x256.size inb).toLoadRect (harg3.unread x) = x := by
  rw [View.readAt_eq_ld, harg3.read_unread]
  exact View.ld_unit_zero (S := S1x256x256) hz3 inb x

theorem rd_2 (x : Vec Ideal S1x8x256 .f32) (inb : ∀ a, (![0, 0, 0] : Fin 3 → ℕ) a + S1x8x256.size a ≤ S1x8x256.size a) :
    View.readAt (Elt Ideal) arg4.view (Rect.unit (s := S1x8x256) ![0, 0, 0] S1x8x256.size inb).toLoadRect (harg4.unread x) = x := by
  rw [View.readAt_eq_ld, harg4.read_unread]
  exact View.ld_unit_zero (S := S1x8x256) hz3 inb x

theorem out_A_1 (hc0 : cond0_0 i) (hc1 : ¬cond0_1 i) (x0 : Vec Ideal S256x40x320 .bf16) : out0_A_1 (F := Ideal) c i arg2 harg2 arg3 harg3 arg4 harg4 hc0 hc1 x0 = k1_pay4 (F := Ideal) x0 := by
  unfold out0_A_1
  rw [View.read_writes_eq_canon _ _ _ (cover0_A_1 c i arg2 harg2 arg3 harg3 arg4 harg4 hc0 hc1 x0)]
  unfold kernelRun0_A
  dsimp only
  rw [View.canon_unit_zero hz3]
  exact congrArg (fun z => k1_pay4 (F := Ideal) z) (rd_in arg2 harg2 x0 inb_S256x40x320_S256x40x320_0_0_0)

theorem out_A_2 (hc0 : cond0_0 i) (hc1 : ¬cond0_1 i) (x0 : Vec Ideal S256x40x320 .bf16) : out0_A_2 (F := Ideal) c i arg2 harg2 arg3 harg3 arg4 harg4 hc0 hc1 x0 = k1_pay5 (F := Ideal) x0 := by
  unfold out0_A_2
  rw [View.read_writes_eq_canon _ _ _ (cover0_A_2 c i arg2 harg2 arg3 harg3 arg4 harg4 hc0 hc1 x0)]
  unfold kernelRun0_A
  dsimp only
  rw [View.canon_unit_zero hz3]
  exact congrArg (fun z => k1_pay5 (F := Ideal) z) (rd_in arg2 harg2 x0 inb_S256x40x320_S256x40x320_0_0_0)

theorem out_B_1 (hc0 : ¬cond0_0 i) (hc1 : cond0_1 i) (x0 : Vec Ideal S256x40x320 .bf16) (xo1 : Vec Ideal S1x256x256 .f32) (xo2 : Vec Ideal S1x8x256 .f32) : out0_B_1 (F := Ideal) c i arg2 harg2 arg3 harg3 arg4 harg4 hc0 hc1 x0 xo1 xo2 = k1_pay6 (F := Ideal) x0 xo1 := by
  unfold out0_B_1
  rw [View.read_writes_eq_canon _ _ _ (cover0_B_1 c i arg2 harg2 arg3 harg3 arg4 harg4 hc0 hc1 x0 xo1 xo2)]
  unfold kernelRun0_B
  dsimp only
  rw [View.canon_unit_zero hz3]
  exact congrArg₂ (fun z w => k1_pay6 (F := Ideal) z w) (rd_in arg2 harg2 x0 inb_S256x40x320_S256x40x320_0_0_0) (rd_1 arg3 harg3 xo1 inb_S1x256x256_S1x256x256_0_0_0)

theorem out_B_2 (hc0 : ¬cond0_0 i) (hc1 : cond0_1 i) (x0 : Vec Ideal S256x40x320 .bf16) (xo1 : Vec Ideal S1x256x256 .f32) (xo2 : Vec Ideal S1x8x256 .f32) : out0_B_2 (F := Ideal) c i arg2 harg2 arg3 harg3 arg4 harg4 hc0 hc1 x0 xo1 xo2 = k1_pay7 (F := Ideal) x0 xo2 := by
  unfold out0_B_2
  rw [View.read_writes_eq_canon _ _ _ (cover0_B_2 c i arg2 harg2 arg3 harg3 arg4 harg4 hc0 hc1 x0 xo1 xo2)]
  unfold kernelRun0_B
  dsimp only
  rw [View.canon_unit_zero hz3]
  exact congrArg₂ (fun z w => k1_pay7 (F := Ideal) z w) (rd_in arg2 harg2 x0 inb_S256x40x320_S256x40x320_0_0_0) (rd_2 arg4 harg4 xo2 inb_S1x8x256_S1x8x256_0_0_0)

end

variable (V : (c : Dev nD) → (r : Ref sig .tc) → r.ty.shape.Idx → Elt Ideal r.ty.elt)

/-- Grid point `4 i + j` of core `i`. -/
abbrev pt (i : Fin 2) (j : Fin 4) : Fin cfg1.N := ⟨4 * i.val + j.val, lt_of_lt_of_eq (by omega) N_1.symm⟩

theorem idx_0 : ∀ t : Fin cfg1.N, win1_0.index t = ![0, t.val, 0] := (by decide +kernel : ∀ t : Fin grid1.N, _)
theorem idx_1 : ∀ t : Fin cfg1.N, win1_1.index t = ![t.val / 4, 0, 0] := (by decide +kernel : ∀ t : Fin grid1.N, _)
theorem idx_2 : ∀ t : Fin cfg1.N, win1_2.index t = ![t.val / 4, 0, 0] := (by decide +kernel : ∀ t : Fin grid1.N, _)

/-- Entry `e` of sample `a`, laid out flat. -/
def ent (X : S256x320x320.Idx → EReal) (a : Fin 256) (e : Fin 102400) : EReal :=
  X (ix3 a ⟨e.val / 320, by omega⟩ ⟨e.val % 320, by omega⟩)

/-- The place in a sample of entry `d` of step `j` of core `i`. -/
def plc (i : Fin 2) (j : Fin 4) (d : Fin 12800) : Fin 102400 := ⟨(4 * i.val + j.val) * 12800 + d.val, by omega⟩

/-- The rows of a point's block. -/
theorem iblk_0 (c : Dev nD) (i : Fin 2) (j : Fin 4) (a : Fin 256) (d : Fin 12800) :
    flat (iblk V c 0 (pt i j)) a d = ent (V c main_v28) a (plc i j d) := by
  show V c main_v28 ((win1_0.blk (pt i j)).view.emb (ix3 a ⟨d.val / 320, by omega⟩ ⟨d.val % 320, by omega⟩)) = _
  refine congrArg (V c main_v28) ?_
  have e := idx_0 (pt i j)
  funext x
  apply Fin.ext
  blk_simp [e]
  match x with
  | ⟨0, _⟩ => show 0 * 256 + a.val = a.val; omega
  | ⟨1, _⟩ => show (4 * i.val + j.val) * 40 + d.val / 320 = ((4 * i.val + j.val) * 12800 + d.val) / 320; omega
  | ⟨2, _⟩ => show 0 * 320 + d.val % 320 = ((4 * i.val + j.val) * 12800 + d.val) % 320; omega

/-- What step `j` of core `i` adds to the products. -/
def gterm (c : Dev nD) (i : Fin 2) (j : Fin 4) (a b : Fin 256) : EReal :=
  ∑ d : Fin 12800, ent (V c main_v28) a (plc i j d) * ent (V c main_v28) b (plc i j d)

/-- What step `j` of core `i` adds to the sums. -/
def sterm (c : Dev nD) (i : Fin 2) (j : Fin 4) (b : Fin 256) : EReal :=
  ∑ d : Fin 12800, ent (V c main_v28) b (plc i j d)

/-- At a core's first point the blocks are one step's. -/
theorem pt_A (c : Dev nD) (t : Fin cfg1.N) (h0 : t.val % 4 = 0) :
    (outsAt0 V c t.val t.isLt).1 = k1_pay4 (F := Ideal) (iblk V c 0 t) ∧ (outsAt0 V c t.val t.isLt).2 = k1_pay5 (F := Ideal) (iblk V c 0 t) := by
  have h1 : ¬ 1 ≤ t.val % 4 := by omega
  have e := outsAt0_A V c t h0 h1
  have o1 := out_A_1 c (grid1.coords t) (ms0_0 t) (hs0_0 t) (ms0_1 t) (hs0_1 t) (ms0_2 t) (hs0_2 t) ((hcond0_0 t).mpr h0) (fun h => h1 ((hcond0_1 t).mp h)) (iblk V c 0 t)
  have o2 := out_A_2 c (grid1.coords t) (ms0_0 t) (hs0_0 t) (ms0_1 t) (hs0_1 t) (ms0_2 t) (hs0_2 t) ((hcond0_0 t).mpr h0) (fun h => h1 ((hcond0_1 t).mp h)) (iblk V c 0 t)
  rw [e]
  dsimp only
  rw [o1, o2]
  exact ⟨rfl, rfl⟩

/-- At a later point the step's are added to what the point before left. -/
theorem pt_B (c : Dev nD) (t : Fin cfg1.N) (h0 : ¬ t.val % 4 = 0) :
    (outsAt0 V c t.val t.isLt).1 = k1_pay6 (F := Ideal) (iblk V c 0 t) (outsAt0 V c (t.val - 1) (Nat.lt_of_le_of_lt (Nat.sub_le _ _) t.isLt)).1
      ∧ (outsAt0 V c t.val t.isLt).2 = k1_pay7 (F := Ideal) (iblk V c 0 t) (outsAt0 V c (t.val - 1) (Nat.lt_of_le_of_lt (Nat.sub_le _ _) t.isLt)).2 := by
  have h1 : 1 ≤ t.val % 4 := by omega
  have e := outsAt0_B V c t h0 h1
  have o1 := out_B_1 c (grid1.coords t) (ms0_0 t) (hs0_0 t) (ms0_1 t) (hs0_1 t) (ms0_2 t) (hs0_2 t) (fun h => h0 ((hcond0_0 t).mp h)) ((hcond0_1 t).mpr h1) (iblk V c 0 t) (outsAt0 V c (t.val - 1) (Nat.lt_of_le_of_lt (Nat.sub_le _ _) t.isLt)).1 (outsAt0 V c (t.val - 1) (Nat.lt_of_le_of_lt (Nat.sub_le _ _) t.isLt)).2
  have o2 := out_B_2 c (grid1.coords t) (ms0_0 t) (hs0_0 t) (ms0_1 t) (hs0_1 t) (ms0_2 t) (hs0_2 t) (fun h => h0 ((hcond0_0 t).mp h)) ((hcond0_1 t).mpr h1) (iblk V c 0 t) (outsAt0 V c (t.val - 1) (Nat.lt_of_le_of_lt (Nat.sub_le _ _) t.isLt)).1 (outsAt0 V c (t.val - 1) (Nat.lt_of_le_of_lt (Nat.sub_le _ _) t.isLt)).2
  rw [e]
  dsimp only
  rw [o1, o2]
  exact ⟨rfl, rfl⟩

theorem step_g (c : Dev nD) (i : Fin 2) (j : Fin 4) (a b : Fin 256) :
    (∑ d : Fin 12800, flat (iblk V c 0 (pt i j)) a d * flat (iblk V c 0 (pt i j)) b d) = gterm V c i j a b :=
  Finset.sum_congr rfl fun d _ => congrArg₂ (· * ·) (iblk_0 V c i j a d) (iblk_0 V c i j b d)

theorem step_s (c : Dev nD) (i : Fin 2) (j : Fin 4) (b : Fin 256) :
    (∑ d : Fin 12800, flat (iblk V c 0 (pt i j)) b d) = sterm V c i j b :=
  Finset.sum_congr rfl fun d _ => iblk_0 V c i j b d

/-- After point `4 i + j` the blocks hold the steps so far. -/
theorem sweep (c : Dev nD) (i : Fin 2) : ∀ (j : ℕ) (hj : j < 4) (h : 4 * i.val + j < cfg1.N),
    (∀ a b, (outsAt0 V c (4 * i.val + j) h).1 (ix3 0 a b) = ∑ s : Fin (j + 1), gterm V c i ⟨s.val, by omega⟩ a b)
      ∧ (∀ b, (outsAt0 V c (4 * i.val + j) h).2 (ix3 0 0 b) = ∑ s : Fin (j + 1), sterm V c i ⟨s.val, by omega⟩ b) := by
  intro j
  induction j with
  | zero =>
    intro hj h
    obtain ⟨e1, e2⟩ := pt_A V c (pt i 0) (by show (4 * i.val + 0) % 4 = 0; omega)
    refine ⟨fun a b => (congrFun e1 _).trans ((gram_0 _ a b).trans ((step_g V c i 0 a b).trans ?_)),
      fun b => (congrFun e2 _).trans ((aux_0 _ b).trans ((step_s V c i 0 b).trans ?_))⟩
    · rw [Fin.sum_univ_one]; rfl
    · rw [Fin.sum_univ_one]; rfl
  | succ j ih =>
    intro hj h
    have h' : 4 * i.val + j < cfg1.N := by omega
    obtain ⟨i1, i2⟩ := ih (by omega) h'
    obtain ⟨e1, e2⟩ := pt_B V c (pt i ⟨j + 1, hj⟩) (by show ¬ (4 * i.val + (j + 1)) % 4 = 0; omega)
    refine ⟨fun a b => (congrFun e1 _).trans ((gram_1 _ _ a b).trans ?_), fun b => (congrFun e2 _).trans ((aux_1 _ _ b).trans ?_)⟩
    · rw [step_g, Fin.sum_univ_castSucc]
      exact congrArg₂ (· + ·) (i1 a b) rfl
    · rw [step_s, Fin.sum_univ_castSucc]
      exact congrArg₂ (· + ·) (i2 b) rfl

/-- The array of products. -/
def G (c : Dev nD) : S2x256x256.Idx → EReal := fun x => ∑ j : Fin 4, gterm V c (x 0) j (x 1) (x 2)

theorem final_1 (c : Dev nD) : (dat V c).arrAt 1 cfg1.N = G V c := by
  refine (dat V c).arrAt_eq_of_covers 1 _ (by decide +kernel) fun t hf y => ?_
  have hm : t.val % 4 = 3 := (flush1_1 t).mp hf
  have hN : t.val < 8 := lt_of_lt_of_eq t.isLt N_1
  blk_simp
  rw [after0_1]
  obtain ⟨i, ht⟩ : ∃ i : Fin 2, t = pt i 3 := ⟨⟨t.val / 4, by omega⟩, Fin.ext (by show t.val = 4 * (t.val / 4) + 3; omega)⟩
  subst ht
  obtain ⟨z, a, b, rfl⟩ : ∃ (z : Fin 1) (a b : Fin 256), y = ix3 z a b := ⟨y 0, y 1, y 2, eq_ix3 y⟩
  obtain rfl : z = 0 := Subsingleton.elim _ _
  have e := idx_1 (pt i 3)
  have hx : (win1_1.blk (pt i 3)).view.emb (ix3 0 a b) = ix3 i a b := by
    funext x
    apply Fin.ext
    blk_simp [e]
    match x with
    | ⟨0, _⟩ => show (4 * i.val + 3) / 4 * 1 + 0 = i.val; omega
    | ⟨1, _⟩ => show 0 * 256 + a.val = a.val; omega
    | ⟨2, _⟩ => show 0 * 256 + b.val = b.val; omega
  refine Eq.trans ?_ (congrArg (G V c) hx).symm
  exact (sweep V c i 3 (by omega) (pt i 3).isLt).1 a b

/-- Row 0 of the last block a core writes is read off the array's row 0. -/
theorem final_2 (c : Dev nD) (i : Fin 2) (b : Fin 256) : (dat V c).arrAt 2 cfg1.N (ix3 i 0 b) = ∑ j : Fin 4, sterm V c i j b := by
  let H : S2x8x256.Idx → EReal := fun x => (outsAt0 V c (pt (x 0) 3).val (pt (x 0) 3).isLt).2 (ix3 0 (x 1) (x 2))
  have hH : (dat V c).arrAt 2 cfg1.N = H := by
    refine (dat V c).arrAt_eq_of_covers 2 _ (by decide +kernel) fun t hf y => ?_
    have hm : t.val % 4 = 3 := (flush1_2 t).mp hf
    have hN : t.val < 8 := lt_of_lt_of_eq t.isLt N_1
    blk_simp
    rw [after0_2]
    obtain ⟨i, ht⟩ : ∃ i : Fin 2, t = pt i 3 := ⟨⟨t.val / 4, by omega⟩, Fin.ext (by show t.val = 4 * (t.val / 4) + 3; omega)⟩
    subst ht
    obtain ⟨z, a, b, rfl⟩ : ∃ (z : Fin 1) (a : Fin 8) (b : Fin 256), y = ix3 z a b := ⟨y 0, y 1, y 2, eq_ix3 y⟩
    obtain rfl : z = 0 := Subsingleton.elim _ _
    have e := idx_2 (pt i 3)
    have hx : (win1_2.blk (pt i 3)).view.emb (ix3 0 a b) = ix3 i a b := by
      funext x
      apply Fin.ext
      blk_simp [e]
      match x with
      | ⟨0, _⟩ => show (4 * i.val + 3) / 4 * 1 + 0 = i.val; omega
      | ⟨1, _⟩ => show 0 * 8 + a.val = a.val; omega
      | ⟨2, _⟩ => show 0 * 256 + b.val = b.val; omega
    exact (congrArg H hx).symm
  rw [hH]
  exact (sweep V c i 3 (by omega) (pt i 3).isLt).2 b

end Cert.KernelIdeal.Gram

end
-- ==== Proof.Sums.lean ====
/- Sums cut into cores, steps and entries. -/
module

public import Mathlib.Data.EReal.Basic
public import Mathlib.Algebra.BigOperators.Fin
public import Mathlib.Logic.Equiv.Fin.Basic

@[expose] public section

namespace Cert.Spec

/-- A sum cut in two levels. -/
theorem sum_cut {A B N : ℕ} (hN : A * B = N) (e : Fin A → Fin B → Fin N) (he : ∀ a b, (e a b).val = B * a.val + b.val)
    (g : Fin N → EReal) : ∑ n : Fin N, g n = ∑ a : Fin A, ∑ b : Fin B, g (e a b) := by
  subst hN
  rw [← Fintype.sum_prod_type']
  refine (Fintype.sum_equiv finProdFinEquiv _ _ fun p => congrArg g (Fin.ext ?_)).symm
  rw [he, finProdFinEquiv_apply_val]
  omega

/-- A sum over 768 places that vanishes on the two gaps. -/
theorem sum_gaps (f : Fin 768 → EReal) (hf : ∀ p : Fin 768, (320 ≤ p.val ∧ p.val < 384) ∨ 704 ≤ p.val → f p = 0) :
    ∑ p : Fin 768, f p = ∑ w : Fin 320, f ⟨w.val, by omega⟩ + ∑ w : Fin 320, f ⟨384 + w.val, by omega⟩ := by
  have z : ∀ (n o : ℕ) (ho : o + n ≤ 768) (hz : ∀ i : Fin n, (320 ≤ o + i.val ∧ o + i.val < 384) ∨ 704 ≤ o + i.val),
      ∑ i : Fin n, f ⟨o + i.val, by omega⟩ = 0 := fun n o ho hz => Finset.sum_eq_zero fun i _ => hf _ (hz i)
  have e1 := Fin.sum_univ_add (a := 704) (b := 64) f
  have e2 := Fin.sum_univ_add (a := 384) (b := 320) fun i => f (Fin.castAdd 64 i)
  have e3 := Fin.sum_univ_add (a := 320) (b := 64) fun i => f (Fin.castAdd 64 (Fin.castAdd 320 i))
  have z1 := z 64 704 (by omega) (fun i => .inr (by omega))
  have z2 := z 64 320 (by omega) (fun i => .inl (by omega))
  refine e1.trans ?_
  rw [e2, e3]
  refine (congrArg₂ (· + ·) (congrArg₂ (· + ·) (congrArg₂ (· + ·) rfl z2) rfl) z1).trans ?_
  rw [add_zero, add_zero]
  rfl

end Cert.Spec
-- ==== Proof.GramVal.lean ====
/- The Gram kernel's two results, over the cores: the inner products and the sums of the samples. -/
module

public import proofs.«01_k».proof.Proof.GramArr
public import proofs.«01_k».proof.Proof.Spec
public import proofs.«01_k».proof.Proof.Sums

@[expose] public section

set_option maxRecDepth 16384

noncomputable section

namespace Cert.KernelIdeal.Gram

open Cert.KernelIdeal Cert.KernelIdeal.Gen Cert.Spec
open Idealize.ShloMosaic Idealize.ShloMosaic.TcCoe

/-- A sum over the entries of a sample, cut into cores, steps and rows of a step. -/
theorem sum_plc (f : Fin 102400 → EReal) :
    (∑ j : Fin 4, ∑ d : Fin 12800, f (plc 0 j d)) + (∑ j : Fin 4, ∑ d : Fin 12800, f (plc 1 j d)) = ∑ e : Fin 102400, f e := by
  rw [sum_cut (A := 8) (B := 12800) (by decide) (fun a d => ⟨12800 * a.val + d.val, by omega⟩) (fun _ _ => rfl) f,
    sum_cut (A := 2) (B := 4) (N := 8) (by decide) (fun i j => ⟨4 * i.val + j.val, by omega⟩) (fun _ _ => rfl), Fin.sum_univ_two]
  refine congrArg₂ (· + ·) ?_ ?_ <;>
    exact Finset.sum_congr rfl fun j _ => Finset.sum_congr rfl fun d _ => congrArg f (Fin.ext (by unfold plc; dsimp only; omega))

variable (V : (c : Dev nD) → (r : Ref sig .tc) → r.ty.shape.Idx → Elt Ideal r.ty.elt) (c : Dev nD) (x : Samples)
  (hx : ∀ n h w, V c main_v28 (ix3 n h w) = x n h w)

include hx

theorem ent_eq (a : Fin 256) (e : Fin 102400) : ent (V c main_v28) a e = Spec.flat x a e := hx _ _ _

theorem gram_eq (a b : Fin 256) : G V c (ix3 0 a b) + G V c (ix3 1 a b) = gram x a b := by
  refine Eq.trans ?_ (sum_plc fun e => Spec.flat x a e * Spec.flat x b e)
  refine congrArg₂ (· + ·) ?_ ?_ <;>
    exact Finset.sum_congr rfl fun j _ => Finset.sum_congr rfl fun d _ =>
      congrArg₂ (· * ·) (ent_eq V c x hx a _) (ent_eq V c x hx b _)

theorem tally_eq (a : Fin 256) :
    (∑ j : Fin 4, sterm V c 0 j a) + (∑ j : Fin 4, sterm V c 1 j a) = tally x a := by
  refine Eq.trans ?_ (sum_plc fun e => Spec.flat x a e)
  refine congrArg₂ (· + ·) ?_ ?_ <;>
    exact Finset.sum_congr rfl fun j _ => Finset.sum_congr rfl fun d _ => ent_eq V c x hx a _

end Cert.KernelIdeal.Gram
-- ==== Proof.PsdRows.lean ====
/- The scratch rows of the transform kernel: what a row holds after its two stores, and that the padding columns stay zero. -/
module

public import proofs.«01_k».proof.Proof.Gen.KernelIdeal.Skeleton
public import Idealize.ShloMosaic.Lib.WritesUnit
public import Idealize.ShloMosaic.Lib.Pointwise

@[expose] public section

set_option maxRecDepth 16384

noncomputable section

namespace Cert.KernelIdeal.Psd

open Cert.KernelIdeal Cert.KernelIdeal.Gen
open Idealize.ShloMosaic

/-- One row of the scratch after the two halves `a`, `b` are stored: the columns in between are zero. -/
def rowOf (a b : S1x168x320.Idx → EReal) (k : Fin 168) (p : Fin 768) : EReal :=
  if h : p.val < 320 then a (ix3 0 k ⟨p.val, h⟩)
  else if p.val < 384 then 0
  else if h : p.val < 704 then b (ix3 0 k ⟨p.val - 384, by omega⟩)
  else 0

/-- The columns no store of the body reaches hold zero. -/
def Pad0 (g : S8x168x768.Idx → EReal) : Prop :=
  ∀ (b : Fin 8) (k : Fin 168) (p : Fin 768), (320 ≤ p.val ∧ p.val < 384) ∨ 704 ≤ p.val → g (ix3 b k p) = 0

variable {sig' : RefSig} {κ : Kind} {sp : Space} (v : View sig' κ sp S8x168x768 .f32) (f : v.ty.Contents (Elt Ideal))

/-- The two stores of one sample leave the padding columns as they were. -/
theorem pad_step (j : ℕ) (inb0 : ∀ a, (![j, 0, 0] : Fin 3 → ℕ) a + S1x168x320.size a ≤ S8x168x768.size a)
    (inb1 : ∀ a, (![j, 0, 384] : Fin 3 → ℕ) a + S1x168x320.size a ≤ S8x168x768.size a)
    (w0 w1 : S1x168x320.Idx → EReal) (L : List (View.Piece (Elt Ideal) S8x168x768 .f32))
    (h : Pad0 (v.read (Elt Ideal) (v.writes (Elt Ideal) f L))) :
    Pad0 (v.read (Elt Ideal) (v.writes (Elt Ideal) f
      (⟨Rect.unit (s := S8x168x768) ![j, 0, 384] S1x168x320.size inb1, w1⟩ :: ⟨Rect.unit (s := S8x168x768) ![j, 0, 0] S1x168x320.size inb0, w0⟩ :: L))) := by
  intro b k p hp
  rw [View.read_writes_cons_unit_of_not_mem v f inb1 w1 _ _ rfl (2 : Fin 3) ?_,
    View.read_writes_cons_unit_of_not_mem v f inb0 w0 _ _ rfl (2 : Fin 3) ?_]
  · exact h b k p hp
  · show p.val < 0 ∨ 0 + 320 ≤ p.val
    omega
  · show p.val < 384 ∨ 384 + 320 ≤ p.val
    omega

/-- The row just stored, read back. -/
theorem row_read (j : Fin 8) (inb0 : ∀ a, (![j.val, 0, 0] : Fin 3 → ℕ) a + S1x168x320.size a ≤ S8x168x768.size a)
    (inb1 : ∀ a, (![j.val, 0, 384] : Fin 3 → ℕ) a + S1x168x320.size a ≤ S8x168x768.size a)
    (w0 w1 : S1x168x320.Idx → EReal) (L : List (View.Piece (Elt Ideal) S8x168x768 .f32))
    (h : Pad0 (v.read (Elt Ideal) (v.writes (Elt Ideal) f L))) (k : Fin 168) (p : Fin 768) :
    v.read (Elt Ideal) (v.writes (Elt Ideal) f
      (⟨Rect.unit (s := S8x168x768) ![j.val, 0, 384] S1x168x320.size inb1, w1⟩ :: ⟨Rect.unit (s := S8x168x768) ![j.val, 0, 0] S1x168x320.size inb0, w0⟩ :: L))
      (ix3 j k p) = rowOf w0 w1 k p := by
  unfold rowOf
  by_cases h1 : p.val < 320
  · rw [dif_pos h1, View.read_writes_cons_unit_of_not_mem v f inb1 w1 _ _ rfl (2 : Fin 3) (Or.inl (show p.val < 384 by omega)),
      View.read_writes_cons_unit_of_mem v f inb0 w0 _ _ (ix3 (0 : Fin 1) k (⟨p.val, h1⟩ : Fin 320)) rfl ?_]
    intro a
    match a with
    | ⟨0, _⟩ => show j.val = j.val + 0; omega
    | ⟨1, _⟩ => show k.val = 0 + k.val; omega
    | ⟨2, _⟩ => show p.val = 0 + p.val; omega
  · rw [dif_neg h1]
    by_cases h2 : p.val < 384
    · rw [if_pos h2]
      exact pad_step v f j.val inb0 inb1 w0 w1 L h j k p (Or.inl ⟨by omega, h2⟩)
    · rw [if_neg h2]
      by_cases h3 : p.val < 704
      · rw [dif_pos h3,
          View.read_writes_cons_unit_of_mem v f inb1 w1 _ _ (ix3 (0 : Fin 1) k (⟨p.val - 384, by omega⟩ : Fin 320)) rfl ?_]
        intro a
        match a with
        | ⟨0, _⟩ => show j.val = j.val + 0; omega
        | ⟨1, _⟩ => show k.val = 0 + k.val; omega
        | ⟨2, _⟩ => show p.val = 384 + (p.val - 384); omega
      · rw [dif_neg h3]
        exact pad_step v f j.val inb0 inb1 w0 w1 L h j k p (Or.inr (by omega))

/-- A load of row block `j` reads the array's row block `j`. -/
theorem ld_row (j : Fin 8) (inb2 : ∀ a, (![j.val, 0, 0] : Fin 3 → ℕ) a + S1x168x768.size a ≤ S8x168x768.size a)
    (X : S8x168x768.Idx → EReal) (k : Fin 168) (p : Fin 768) :
    View.ld (Val := Elt Ideal) (e' := .f32) X (Rect.unit (s := S8x168x768) ![j.val, 0, 0] S1x168x768.size inb2) (ix3 (0 : Fin 1) k p) = X (ix3 j k p) := by
  unfold View.ld
  have e : (Rect.unit (s := S8x168x768) ![j.val, 0, 0] S1x168x768.size inb2).toLoadRect.idx (ix3 (0 : Fin 1) k p) = ix3 j k p := by
    funext a
    apply Fin.ext
    match a with
    | ⟨0, _⟩ => show j.val + 1 * 0 = j.val; omega
    | ⟨1, _⟩ => show 0 + 1 * k.val = k.val; omega
    | ⟨2, _⟩ => show 0 + 1 * p.val = p.val; omega
  exact congrArg X e

/-- The load of sample `j`'s row after its two stores. -/
theorem row_load (j : Fin 8) (inb0 : ∀ a, (![j.val, 0, 0] : Fin 3 → ℕ) a + S1x168x320.size a ≤ S8x168x768.size a)
    (inb1 : ∀ a, (![j.val, 0, 384] : Fin 3 → ℕ) a + S1x168x320.size a ≤ S8x168x768.size a)
    (inb2 : ∀ a, (![j.val, 0, 0] : Fin 3 → ℕ) a + S1x168x768.size a ≤ S8x168x768.size a)
    (w0 w1 : S1x168x320.Idx → EReal) (L : List (View.Piece (Elt Ideal) S8x168x768 .f32))
    (h : Pad0 (v.read (Elt Ideal) (v.writes (Elt Ideal) f L))) (k : Fin 168) (p : Fin 768) :
    View.readAt (Elt Ideal) v (Rect.unit (s := S8x168x768) ![j.val, 0, 0] S1x168x768.size inb2).toLoadRect (v.writes (Elt Ideal) f
      (⟨Rect.unit (s := S8x168x768) ![j.val, 0, 384] S1x168x320.size inb1, w1⟩ :: ⟨Rect.unit (s := S8x168x768) ![j.val, 0, 0] S1x168x320.size inb0, w0⟩ :: L))
      (ix3 (0 : Fin 1) k p) = rowOf w0 w1 k p := by
  rw [View.readAt_eq_ld]
  exact (ld_row j inb2 _ k p).trans (row_read v f j inb0 inb1 w0 w1 L h k p)

end Cert.KernelIdeal.Psd

end
-- ==== Proof.PsdPay.lean ====
/- The payloads of the transform kernel at an index: the first product's two halves, and the squared second product added up. -/
module

public import proofs.«01_k».proof.Proof.PsdRows

@[expose] public section

set_option maxRecDepth 16384

noncomputable section

namespace Cert.KernelIdeal.Psd

open Cert.KernelIdeal Cert.KernelIdeal.Gen
open Idealize.ShloMosaic

/-- The first product's entry: row `r` of the cosine and sine table times column `w` of the sample. -/
def dft (x1 : S336x320.Idx → EReal) (y : S1x320x320.Idx → EReal) (r : Fin 336) (w : Fin 320) : EReal :=
  ∑ h : Fin 320, x1 (ix2 r h) * y (ix3 0 h w)

/-- The cosine half's rows. -/
def lo (x1 : S336x320.Idx → EReal) (y : S1x320x320.Idx → EReal) : S1x168x320.Idx → EReal :=
  fun i => dft x1 y ⟨(i 1).val, lt_of_lt_of_le (i 1).isLt (by decide)⟩ (i 2)

/-- The sine half's rows. -/
def hi (x1 : S336x320.Idx → EReal) (y : S1x320x320.Idx → EReal) : S1x168x320.Idx → EReal :=
  fun i => dft x1 y ⟨168 + (i 1).val, Nat.add_lt_add_left (i 1).isLt 168⟩ (i 2)

/-- The second product's entry, squared. -/
def sqr (v : S1x168x768.Idx → EReal) (x2 : S768x640.Idx → EReal) (k : Fin 168) (q : Fin 640) : EReal :=
  (∑ p : Fin 768, v (ix3 0 k p) * x2 (ix2 p q)) * (∑ p : Fin 768, v (ix3 0 k p) * x2 (ix2 p q))

variable (x1 : FVec Ideal S336x320 .bf16) (y : FVec Ideal S1x320x320 .bf16) (v v' : FVec Ideal S1x168x768 .f32) (x2 : FVec Ideal S768x640 .f32)
  (acc : FVec Ideal S168x640 .f32)

theorem lo_0 : k0_pay8 (F := Ideal) x1 y = lo x1 y := by
  funext i
  obtain ⟨a, k, w, rfl⟩ : ∃ (a : Fin 1) (k : Fin 168) (w : Fin 320), i = ix3 a k w := ⟨i 0, i 1, i 2, eq_ix3 i⟩
  unfold lo dft
  pointwise [k0_pay8, k0_pay7]

theorem lo_1 : k0_pay13 (F := Ideal) (k0_pay12 x1 y) = lo x1 y := by
  funext i
  obtain ⟨a, k, w, rfl⟩ : ∃ (a : Fin 1) (k : Fin 168) (w : Fin 320), i = ix3 a k w := ⟨i 0, i 1, i 2, eq_ix3 i⟩
  unfold lo dft
  pointwise [k0_pay13, k0_pay12, k0_pay11]

theorem lo_2 : k0_pay17 (F := Ideal) x1 y = lo x1 y := by
  funext i
  obtain ⟨a, k, w, rfl⟩ : ∃ (a : Fin 1) (k : Fin 168) (w : Fin 320), i = ix3 a k w := ⟨i 0, i 1, i 2, eq_ix3 i⟩
  unfold lo dft
  pointwise [k0_pay17, k0_pay16]

theorem lo_3 : k0_pay21 (F := Ideal) x1 y = lo x1 y := by
  funext i
  obtain ⟨a, k, w, rfl⟩ : ∃ (a : Fin 1) (k : Fin 168) (w : Fin 320), i = ix3 a k w := ⟨i 0, i 1, i 2, eq_ix3 i⟩
  unfold lo dft
  pointwise [k0_pay21, k0_pay20]

theorem lo_4 : k0_pay26 (F := Ideal) (k0_pay25 x1 y) = lo x1 y := by
  funext i
  obtain ⟨a, k, w, rfl⟩ : ∃ (a : Fin 1) (k : Fin 168) (w : Fin 320), i = ix3 a k w := ⟨i 0, i 1, i 2, eq_ix3 i⟩
  unfold lo dft
  pointwise [k0_pay26, k0_pay25, k0_pay24]

theorem lo_5 : k0_pay30 (F := Ideal) x1 y = lo x1 y := by
  funext i
  obtain ⟨a, k, w, rfl⟩ : ∃ (a : Fin 1) (k : Fin 168) (w : Fin 320), i = ix3 a k w := ⟨i 0, i 1, i 2, eq_ix3 i⟩
  unfold lo dft
  pointwise [k0_pay30, k0_pay29]

theorem lo_6 : k0_pay34 (F := Ideal) x1 y = lo x1 y := by
  funext i
  obtain ⟨a, k, w, rfl⟩ : ∃ (a : Fin 1) (k : Fin 168) (w : Fin 320), i = ix3 a k w := ⟨i 0, i 1, i 2, eq_ix3 i⟩
  unfold lo dft
  pointwise [k0_pay34, k0_pay33]

theorem lo_7 : k0_pay1 (F := Ideal) (k0_pay38 x1 y) = lo x1 y := by
  funext i
  obtain ⟨a, k, w, rfl⟩ : ∃ (a : Fin 1) (k : Fin 168) (w : Fin 320), i = ix3 a k w := ⟨i 0, i 1, i 2, eq_ix3 i⟩
  unfold lo dft
  pointwise [k0_pay1, k0_pay38, k0_pay37]

theorem hi_0 : k0_pay9 (F := Ideal) x1 y = hi x1 y := by
  funext i
  obtain ⟨a, k, w, rfl⟩ : ∃ (a : Fin 1) (k : Fin 168) (w : Fin 320), i = ix3 a k w := ⟨i 0, i 1, i 2, eq_ix3 i⟩
  unfold hi dft
  pointwise [k0_pay9, k0_pay7]

theorem hi_1 : k0_pay14 (F := Ideal) (k0_pay11 x1 y) = hi x1 y := by
  funext i
  obtain ⟨a, k, w, rfl⟩ : ∃ (a : Fin 1) (k : Fin 168) (w : Fin 320), i = ix3 a k w := ⟨i 0, i 1, i 2, eq_ix3 i⟩
  unfold hi dft
  pointwise [k0_pay14, k0_pay11]

theorem hi_2 : k0_pay18 (F := Ideal) x1 y = hi x1 y := by
  funext i
  obtain ⟨a, k, w, rfl⟩ : ∃ (a : Fin 1) (k : Fin 168) (w : Fin 320), i = ix3 a k w := ⟨i 0, i 1, i 2, eq_ix3 i⟩
  unfold hi dft
  pointwise [k0_pay18, k0_pay16]

theorem hi_3 : k0_pay22 (F := Ideal) x1 y = hi x1 y := by
  funext i
  obtain ⟨a, k, w, rfl⟩ : ∃ (a : Fin 1) (k : Fin 168) (w : Fin 320), i = ix3 a k w := ⟨i 0, i 1, i 2, eq_ix3 i⟩
  unfold hi dft
  pointwise [k0_pay22, k0_pay20]

theorem hi_4 : k0_pay27 (F := Ideal) (k0_pay24 x1 y) = hi x1 y := by
  funext i
  obtain ⟨a, k, w, rfl⟩ : ∃ (a : Fin 1) (k : Fin 168) (w : Fin 320), i = ix3 a k w := ⟨i 0, i 1, i 2, eq_ix3 i⟩
  unfold hi dft
  pointwise [k0_pay27, k0_pay24]

theorem hi_5 : k0_pay31 (F := Ideal) x1 y = hi x1 y := by
  funext i
  obtain ⟨a, k, w, rfl⟩ : ∃ (a : Fin 1) (k : Fin 168) (w : Fin 320), i = ix3 a k w := ⟨i 0, i 1, i 2, eq_ix3 i⟩
  unfold hi dft
  pointwise [k0_pay31, k0_pay29]

theorem hi_6 : k0_pay35 (F := Ideal) x1 y = hi x1 y := by
  funext i
  obtain ⟨a, k, w, rfl⟩ : ∃ (a : Fin 1) (k : Fin 168) (w : Fin 320), i = ix3 a k w := ⟨i 0, i 1, i 2, eq_ix3 i⟩
  unfold hi dft
  pointwise [k0_pay35, k0_pay33]

theorem hi_7 : k0_pay2 (F := Ideal) (k0_pay37 x1 y) = hi x1 y := by
  funext i
  obtain ⟨a, k, w, rfl⟩ : ∃ (a : Fin 1) (k : Fin 168) (w : Fin 320), i = ix3 a k w := ⟨i 0, i 1, i 2, eq_ix3 i⟩
  unfold hi dft
  pointwise [k0_pay2, k0_pay37]

theorem sum_0 (k : Fin 168) (q : Fin 640) : k0_pay10 (F := Ideal) v x2 (ix2 k q) = sqr v x2 k q := by
  unfold sqr
  pointwise [k0_pay10]

theorem sum_1 (k : Fin 168) (q : Fin 640) : k0_pay15 (F := Ideal) acc v x2 (ix2 k q) = acc (ix2 k q) + sqr v x2 k q := by
  unfold sqr
  pointwise [k0_pay15]

theorem sum_2 (k : Fin 168) (q : Fin 640) : k0_pay23 (F := Ideal) acc (k0_pay19 v) x2 v' x2 (ix2 k q) = acc (ix2 k q) + sqr v x2 k q + sqr v' x2 k q := by
  unfold sqr
  pointwise [k0_pay23, k0_pay19]

theorem sum_3 (k : Fin 168) (q : Fin 640) : k0_pay28 (F := Ideal) acc v x2 (ix2 k q) = acc (ix2 k q) + sqr v x2 k q := by
  unfold sqr
  pointwise [k0_pay28]

theorem sum_4 (k : Fin 168) (q : Fin 640) : k0_pay36 (F := Ideal) acc (k0_pay32 v) x2 v' x2 (ix2 k q) = acc (ix2 k q) + sqr v x2 k q + sqr v' x2 k q := by
  unfold sqr
  pointwise [k0_pay36, k0_pay32]

theorem sum_A (k : Fin 168) (q : Fin 640) : k0_pay4 (F := Ideal) acc v x2 (ix3 0 k q) = acc (ix2 k q) + sqr v x2 k q := by
  unfold sqr
  pointwise [k0_pay4, k0_pay3]

theorem sum_B (o : FVec Ideal S1x168x640 .f32) (k : Fin 168) (q : Fin 640) :
    k0_pay5 (F := Ideal) acc v x2 o (ix3 0 k q) = o (ix3 0 k q) + (acc (ix2 k q) + sqr v x2 k q) := by
  unfold sqr
  pointwise [k0_pay5, k0_pay3]

theorem fill (i : S8x168x768.Idx) : (k0_pay6 (F := Ideal)) i = 0 := by
  pointwise [k0_pay6]

end Cert.KernelIdeal.Psd

end
-- ==== Proof.PsdOut.lean ====
/- What one step of the transform kernel leaves: the squared transforms of its eight samples added up, and a scratch whose padding columns are zero. -/
module

public import proofs.«01_k».proof.Proof.PsdBody
public import proofs.«01_k».proof.Proof.PsdPay
public import Idealize.ShloMosaic.Lib.Pipeline.ValueKit

@[expose] public section

set_option maxRecDepth 16384

noncomputable section

namespace Cert.KernelIdeal.Psd

open Cert.KernelIdeal Cert.KernelIdeal.Gen
open Idealize.ShloMosaic Idealize.ShloMosaic.TcCoe

/-- Sample `b` of a block of eight. -/
def smp (x0 : S8x320x320.Idx → EReal) (b : Fin 8) : S1x320x320.Idx → EReal := fun i => x0 (ix3 b (i 1) (i 2))

/-- The scratch row block of sample `b`. -/
def row (x0 : S8x320x320.Idx → EReal) (x1 : S336x320.Idx → EReal) (b : Fin 8) : S1x168x768.Idx → EReal :=
  fun i => rowOf (lo x1 (smp x0 b)) (hi x1 (smp x0 b)) (i 1) (i 2)

/-- What one step adds. -/
def stepSum (x0 : S8x320x320.Idx → EReal) (x1 : S336x320.Idx → EReal) (x2 : S768x640.Idx → EReal) (k : Fin 168) (q : Fin 640) : EReal :=
  ∑ b : Fin 8, sqr (row x0 x1 b) x2 k q

theorem ld_smp (b : Fin 8) (inb : ∀ a, (![b.val, 0, 0] : Fin 3 → ℕ) a + S1x320x320.size a ≤ S8x320x320.size a)
    (X : S8x320x320.Idx → EReal) :
    View.ld (Val := Elt Ideal) (e' := .bf16) X (Rect.unit (s := S8x320x320) ![b.val, 0, 0] S1x320x320.size inb) = smp X b := by
  funext i
  unfold View.ld smp
  have e : (Rect.unit (s := S8x320x320) ![b.val, 0, 0] S1x320x320.size inb).toLoadRect.idx i = ix3 b (i 1) (i 2) := by
    funext a
    apply Fin.ext
    have h0 : (i 0).val < 1 := (i 0).isLt
    match a with
    | ⟨0, _⟩ => show b.val + 1 * (i 0).val = b.val; omega
    | ⟨1, _⟩ => show 0 + 1 * (i 1).val = (i 1).val; omega
    | ⟨2, _⟩ => show 0 + 1 * (i 2).val = (i 2).val; omega
  exact congrArg X e

theorem hz2 : (![0, 0] : Fin 2 → ℕ) = fun _ => 0 := funext fun a => by fin_cases a <;> rfl
theorem hz3 : (![0, 0, 0] : Fin 3 → ℕ) = fun _ => 0 := funext fun a => by fin_cases a <;> rfl

variable (c : Dev nD) (i : grid0.Coords) (arg2 : Memref sig .tc .vmem S8x320x320 .bf16) (harg2 : arg2.IsWhole) (arg3 : Memref sig .tc .vmem S336x320 .bf16) (harg3 : arg3.IsWhole)
  (arg4 : Memref sig .tc .vmem S768x640 .f32) (harg4 : arg4.IsWhole) (arg5 : Memref sig .tc .vmem S1x168x640 .f32) (harg5 : arg5.IsWhole) (arg6 : Memref sig .tc .vmem S8x168x768 .f32) (harg6 : arg6.IsWhole)
  (x0 : Vec Ideal S8x320x320 .bf16) (x1 : Vec Ideal S336x320 .bf16) (x2 : Vec Ideal S768x640 .f32) (xo3 : Vec Ideal S1x168x640 .f32) (xs0 : Vec Ideal S8x168x768 .f32)

theorem rd_smp (b : Fin 8) (inb : ∀ a, (![b.val, 0, 0] : Fin 3 → ℕ) a + S1x320x320.size a ≤ S8x320x320.size a) :
    View.readAt (Elt Ideal) arg2.view (Rect.unit (s := S8x320x320) ![b.val, 0, 0] S1x320x320.size inb).toLoadRect (harg2.unread x0) = smp x0 b := by
  rw [View.readAt_eq_ld, harg2.read_unread]
  exact ld_smp b inb x0

theorem rd_tab (inb : ∀ a, (![0, 0] : Fin 2 → ℕ) a + S336x320.size a ≤ S336x320.size a) :
    View.readAt (Elt Ideal) arg3.view (Rect.unit (s := S336x320) ![0, 0] S336x320.size inb).toLoadRect (harg3.unread x1) = x1 := by
  rw [View.readAt_eq_ld, harg3.read_unread]
  exact View.ld_unit_zero (S := S336x320) hz2 inb x1

theorem rd_tab2 (inb : ∀ a, (![0, 0] : Fin 2 → ℕ) a + S768x640.size a ≤ S768x640.size a) :
    View.readAt (Elt Ideal) arg4.view (Rect.unit (s := S768x640) ![0, 0] S768x640.size inb).toLoadRect (harg4.unread x2) = x2 := by
  rw [View.readAt_eq_ld, harg4.read_unread]
  exact View.ld_unit_zero (S := S768x640) hz2 inb x2

theorem rd_acc (inb : ∀ a, (![0, 0, 0] : Fin 3 → ℕ) a + S1x168x640.size a ≤ S1x168x640.size a) :
    View.readAt (Elt Ideal) arg5.view (Rect.unit (s := S1x168x640) ![0, 0, 0] S1x168x640.size inb).toLoadRect (harg5.unread xo3) = xo3 := by
  rw [View.readAt_eq_ld, harg5.read_unread]
  exact View.ld_unit_zero (S := S1x168x640) hz3 inb xo3

/-- Case A starts from a scratch filled with zero. -/
theorem A_base : Pad0 (arg6.view.read (Elt Ideal) (arg6.view.writes (Elt Ideal) arg6.view.junk [⟨Rect.unit (s := S8x168x768) ![0, 0, 0] S8x168x768.size inb_S8x168x768_S8x168x768_0_0_0, k0_pay6 (F := Ideal)⟩])) := by
  intro b k p _
  rw [View.read_writes_cons_unit_of_mem (Val := Elt Ideal) arg6.view arg6.view.junk inb_S8x168x768_S8x168x768_0_0_0 (k0_pay6 (F := Ideal)) [] (ix3 b k p) (ix3 b k p) rfl ?_]
  · exact fill _
  · intro a
    match a with
    | ⟨0, _⟩ => show b.val = 0 + b.val; omega
    | ⟨1, _⟩ => show k.val = 0 + k.val; omega
    | ⟨2, _⟩ => show p.val = 0 + p.val; omega

theorem A_hs0 : kernelRun0_A.sl.HS0_3 (F := Ideal) c arg2 harg2 arg3 harg3 x0 x1 = ⟨Rect.unit (s := S8x168x768) ![0, 0, 384] S1x168x320.size inb_S8x168x768_S1x168x320_0_0_384, hi x1 (smp x0 0)⟩
      :: ⟨Rect.unit (s := S8x168x768) ![0, 0, 0] S1x168x320.size inb_S8x168x768_S1x168x320_0_0_0, lo x1 (smp x0 0)⟩ :: [⟨Rect.unit (s := S8x168x768) ![0, 0, 0] S8x168x768.size inb_S8x168x768_S8x168x768_0_0_0, k0_pay6 (F := Ideal)⟩] := by
  have e0 := rd_smp arg2 harg2 x0 0 inb_S8x320x320_S1x320x320_0_0_0
  have e1 := rd_tab arg3 harg3 x1 inb_S336x320_S336x320_0_0
  rw [← lo_0 x1 (smp x0 0), ← hi_0 x1 (smp x0 0), ← e0]
  nth_rewrite 2 [← e1]
  nth_rewrite 3 [← e1]
  rfl

theorem A_pad0 : Pad0 (arg6.view.read (Elt Ideal) (arg6.view.writes (Elt Ideal) arg6.view.junk (kernelRun0_A.sl.HS0_3 (F := Ideal) c arg2 harg2 arg3 harg3 x0 x1))) := by
  rw [A_hs0]
  exact pad_step arg6.view arg6.view.junk 0 inb_S8x168x768_S1x168x320_0_0_0 inb_S8x168x768_S1x168x320_0_0_384 _ _ _ (A_base arg6)

theorem A_v0 : kernelRun0_A.sl.v16 (F := Ideal) c arg2 harg2 arg3 harg3 arg6 x0 x1 = row x0 x1 0 := by
  funext y
  obtain ⟨a, k, p, rfl⟩ : ∃ (a : Fin 1) (k : Fin 168) (p : Fin 768), y = ix3 a k p := ⟨y 0, y 1, y 2, eq_ix3 y⟩
  obtain rfl : a = 0 := Subsingleton.elim _ _
  unfold kernelRun0_A.sl.v16
  rw [A_hs0]
  exact row_load arg6.view arg6.view.junk 0 inb_S8x168x768_S1x168x320_0_0_0 inb_S8x168x768_S1x168x320_0_0_384 inb_S8x168x768_S1x168x768_0_0_0 _ _ _ (A_base arg6) k p

theorem A_hs1 : kernelRun0_A.sl.HS0_5 (F := Ideal) c arg2 harg2 arg3 harg3 x0 x1 = ⟨Rect.unit (s := S8x168x768) ![1, 0, 384] S1x168x320.size inb_S8x168x768_S1x168x320_1_0_384, hi x1 (smp x0 1)⟩
      :: ⟨Rect.unit (s := S8x168x768) ![1, 0, 0] S1x168x320.size inb_S8x168x768_S1x168x320_1_0_0, lo x1 (smp x0 1)⟩ :: (kernelRun0_A.sl.HS0_3 (F := Ideal) c arg2 harg2 arg3 harg3 x0 x1) := by
  have e0 := rd_smp arg2 harg2 x0 1 inb_S8x320x320_S1x320x320_1_0_0
  have e1 := rd_tab arg3 harg3 x1 inb_S336x320_S336x320_0_0
  rw [← lo_1 x1 (smp x0 1), ← hi_1 x1 (smp x0 1), ← e0]
  nth_rewrite 2 [← e1]
  nth_rewrite 3 [← e1]
  rfl

theorem A_pad1 : Pad0 (arg6.view.read (Elt Ideal) (arg6.view.writes (Elt Ideal) arg6.view.junk (kernelRun0_A.sl.HS0_5 (F := Ideal) c arg2 harg2 arg3 harg3 x0 x1))) := by
  rw [A_hs1]
  exact pad_step arg6.view arg6.view.junk 1 inb_S8x168x768_S1x168x320_1_0_0 inb_S8x168x768_S1x168x320_1_0_384 _ _ _ (A_pad0 c arg2 harg2 arg3 harg3 arg6 x0 x1)

theorem A_v1 : kernelRun0_A.sl.v35 (F := Ideal) c arg2 harg2 arg3 harg3 arg6 x0 x1 = row x0 x1 1 := by
  funext y
  obtain ⟨a, k, p, rfl⟩ : ∃ (a : Fin 1) (k : Fin 168) (p : Fin 768), y = ix3 a k p := ⟨y 0, y 1, y 2, eq_ix3 y⟩
  obtain rfl : a = 0 := Subsingleton.elim _ _
  unfold kernelRun0_A.sl.v35
  rw [A_hs1]
  exact row_load arg6.view arg6.view.junk 1 inb_S8x168x768_S1x168x320_1_0_0 inb_S8x168x768_S1x168x320_1_0_384 inb_S8x168x768_S1x168x768_1_0_0 _ _ _ (A_pad0 c arg2 harg2 arg3 harg3 arg6 x0 x1) k p

theorem A_hs2 : kernelRun0_A.sl.HS0_7 (F := Ideal) c arg2 harg2 arg3 harg3 x0 x1 = ⟨Rect.unit (s := S8x168x768) ![2, 0, 384] S1x168x320.size inb_S8x168x768_S1x168x320_2_0_384, hi x1 (smp x0 2)⟩
      :: ⟨Rect.unit (s := S8x168x768) ![2, 0, 0] S1x168x320.size inb_S8x168x768_S1x168x320_2_0_0, lo x1 (smp x0 2)⟩ :: (kernelRun0_A.sl.HS0_5 (F := Ideal) c arg2 harg2 arg3 harg3 x0 x1) := by
  have e0 := rd_smp arg2 harg2 x0 2 inb_S8x320x320_S1x320x320_2_0_0
  have e1 := rd_tab arg3 harg3 x1 inb_S336x320_S336x320_0_0
  rw [← lo_2 x1 (smp x0 2), ← hi_2 x1 (smp x0 2), ← e0]
  nth_rewrite 2 [← e1]
  nth_rewrite 3 [← e1]
  rfl

theorem A_pad2 : Pad0 (arg6.view.read (Elt Ideal) (arg6.view.writes (Elt Ideal) arg6.view.junk (kernelRun0_A.sl.HS0_7 (F := Ideal) c arg2 harg2 arg3 harg3 x0 x1))) := by
  rw [A_hs2]
  exact pad_step arg6.view arg6.view.junk 2 inb_S8x168x768_S1x168x320_2_0_0 inb_S8x168x768_S1x168x320_2_0_384 _ _ _ (A_pad1 c arg2 harg2 arg3 harg3 arg6 x0 x1)

theorem A_v2 : kernelRun0_A.sl.v55 (F := Ideal) c arg2 harg2 arg3 harg3 arg6 x0 x1 = row x0 x1 2 := by
  funext y
  obtain ⟨a, k, p, rfl⟩ : ∃ (a : Fin 1) (k : Fin 168) (p : Fin 768), y = ix3 a k p := ⟨y 0, y 1, y 2, eq_ix3 y⟩
  obtain rfl : a = 0 := Subsingleton.elim _ _
  unfold kernelRun0_A.sl.v55
  rw [A_hs2]
  exact row_load arg6.view arg6.view.junk 2 inb_S8x168x768_S1x168x320_2_0_0 inb_S8x168x768_S1x168x320_2_0_384 inb_S8x168x768_S1x168x768_2_0_0 _ _ _ (A_pad1 c arg2 harg2 arg3 harg3 arg6 x0 x1) k p

theorem A_hs3 : kernelRun0_A.sl.HS0_9 (F := Ideal) c arg2 harg2 arg3 harg3 x0 x1 = ⟨Rect.unit (s := S8x168x768) ![3, 0, 384] S1x168x320.size inb_S8x168x768_S1x168x320_3_0_384, hi x1 (smp x0 3)⟩
      :: ⟨Rect.unit (s := S8x168x768) ![3, 0, 0] S1x168x320.size inb_S8x168x768_S1x168x320_3_0_0, lo x1 (smp x0 3)⟩ :: (kernelRun0_A.sl.HS0_7 (F := Ideal) c arg2 harg2 arg3 harg3 x0 x1) := by
  have e0 := rd_smp arg2 harg2 x0 3 inb_S8x320x320_S1x320x320_3_0_0
  have e1 := rd_tab arg3 harg3 x1 inb_S336x320_S336x320_0_0
  rw [← lo_3 x1 (smp x0 3), ← hi_3 x1 (smp x0 3), ← e0]
  nth_rewrite 2 [← e1]
  nth_rewrite 3 [← e1]
  rfl

theorem A_pad3 : Pad0 (arg6.view.read (Elt Ideal) (arg6.view.writes (Elt Ideal) arg6.view.junk (kernelRun0_A.sl.HS0_9 (F := Ideal) c arg2 harg2 arg3 harg3 x0 x1))) := by
  rw [A_hs3]
  exact pad_step arg6.view arg6.view.junk 3 inb_S8x168x768_S1x168x320_3_0_0 inb_S8x168x768_S1x168x320_3_0_384 _ _ _ (A_pad2 c arg2 harg2 arg3 harg3 arg6 x0 x1)

theorem A_v3 : kernelRun0_A.sl.v75 (F := Ideal) c arg2 harg2 arg3 harg3 arg6 x0 x1 = row x0 x1 3 := by
  funext y
  obtain ⟨a, k, p, rfl⟩ : ∃ (a : Fin 1) (k : Fin 168) (p : Fin 768), y = ix3 a k p := ⟨y 0, y 1, y 2, eq_ix3 y⟩
  obtain rfl : a = 0 := Subsingleton.elim _ _
  unfold kernelRun0_A.sl.v75
  rw [A_hs3]
  exact row_load arg6.view arg6.view.junk 3 inb_S8x168x768_S1x168x320_3_0_0 inb_S8x168x768_S1x168x320_3_0_384 inb_S8x168x768_S1x168x768_3_0_0 _ _ _ (A_pad2 c arg2 harg2 arg3 harg3 arg6 x0 x1) k p

theorem A_hs4 : kernelRun0_A.sl.HS0_11 (F := Ideal) c arg2 harg2 arg3 harg3 x0 x1 = ⟨Rect.unit (s := S8x168x768) ![4, 0, 384] S1x168x320.size inb_S8x168x768_S1x168x320_4_0_384, hi x1 (smp x0 4)⟩
      :: ⟨Rect.unit (s := S8x168x768) ![4, 0, 0] S1x168x320.size inb_S8x168x768_S1x168x320_4_0_0, lo x1 (smp x0 4)⟩ :: (kernelRun0_A.sl.HS0_9 (F := Ideal) c arg2 harg2 arg3 harg3 x0 x1) := by
  have e0 := rd_smp arg2 harg2 x0 4 inb_S8x320x320_S1x320x320_4_0_0
  have e1 := rd_tab arg3 harg3 x1 inb_S336x320_S336x320_0_0
  rw [← lo_4 x1 (smp x0 4), ← hi_4 x1 (smp x0 4), ← e0]
  nth_rewrite 2 [← e1]
  nth_rewrite 3 [← e1]
  rfl

theorem A_pad4 : Pad0 (arg6.view.read (Elt Ideal) (arg6.view.writes (Elt Ideal) arg6.view.junk (kernelRun0_A.sl.HS0_11 (F := Ideal) c arg2 harg2 arg3 harg3 x0 x1))) := by
  rw [A_hs4]
  exact pad_step arg6.view arg6.view.junk 4 inb_S8x168x768_S1x168x320_4_0_0 inb_S8x168x768_S1x168x320_4_0_384 _ _ _ (A_pad3 c arg2 harg2 arg3 harg3 arg6 x0 x1)

theorem A_v4 : kernelRun0_A.sl.v95 (F := Ideal) c arg2 harg2 arg3 harg3 arg6 x0 x1 = row x0 x1 4 := by
  funext y
  obtain ⟨a, k, p, rfl⟩ : ∃ (a : Fin 1) (k : Fin 168) (p : Fin 768), y = ix3 a k p := ⟨y 0, y 1, y 2, eq_ix3 y⟩
  obtain rfl : a = 0 := Subsingleton.elim _ _
  unfold kernelRun0_A.sl.v95
  rw [A_hs4]
  exact row_load arg6.view arg6.view.junk 4 inb_S8x168x768_S1x168x320_4_0_0 inb_S8x168x768_S1x168x320_4_0_384 inb_S8x168x768_S1x168x768_4_0_0 _ _ _ (A_pad3 c arg2 harg2 arg3 harg3 arg6 x0 x1) k p

theorem A_hs5 : kernelRun0_A.sl.HS0_13 (F := Ideal) c arg2 harg2 arg3 harg3 x0 x1 = ⟨Rect.unit (s := S8x168x768) ![5, 0, 384] S1x168x320.size inb_S8x168x768_S1x168x320_5_0_384, hi x1 (smp x0 5)⟩
      :: ⟨Rect.unit (s := S8x168x768) ![5, 0, 0] S1x168x320.size inb_S8x168x768_S1x168x320_5_0_0, lo x1 (smp x0 5)⟩ :: (kernelRun0_A.sl.HS0_11 (F := Ideal) c arg2 harg2 arg3 harg3 x0 x1) := by
  have e0 := rd_smp arg2 harg2 x0 5 inb_S8x320x320_S1x320x320_5_0_0
  have e1 := rd_tab arg3 harg3 x1 inb_S336x320_S336x320_0_0
  rw [← lo_5 x1 (smp x0 5), ← hi_5 x1 (smp x0 5), ← e0]
  nth_rewrite 2 [← e1]
  nth_rewrite 3 [← e1]
  rfl

theorem A_pad5 : Pad0 (arg6.view.read (Elt Ideal) (arg6.view.writes (Elt Ideal) arg6.view.junk (kernelRun0_A.sl.HS0_13 (F := Ideal) c arg2 harg2 arg3 harg3 x0 x1))) := by
  rw [A_hs5]
  exact pad_step arg6.view arg6.view.junk 5 inb_S8x168x768_S1x168x320_5_0_0 inb_S8x168x768_S1x168x320_5_0_384 _ _ _ (A_pad4 c arg2 harg2 arg3 harg3 arg6 x0 x1)

theorem A_v5 : kernelRun0_A.sl.v115 (F := Ideal) c arg2 harg2 arg3 harg3 arg6 x0 x1 = row x0 x1 5 := by
  funext y
  obtain ⟨a, k, p, rfl⟩ : ∃ (a : Fin 1) (k : Fin 168) (p : Fin 768), y = ix3 a k p := ⟨y 0, y 1, y 2, eq_ix3 y⟩
  obtain rfl : a = 0 := Subsingleton.elim _ _
  unfold kernelRun0_A.sl.v115
  rw [A_hs5]
  exact row_load arg6.view arg6.view.junk 5 inb_S8x168x768_S1x168x320_5_0_0 inb_S8x168x768_S1x168x320_5_0_384 inb_S8x168x768_S1x168x768_5_0_0 _ _ _ (A_pad4 c arg2 harg2 arg3 harg3 arg6 x0 x1) k p

theorem A_hs6 : kernelRun0_A.sl.HS0_15 (F := Ideal) c arg2 harg2 arg3 harg3 x0 x1 = ⟨Rect.unit (s := S8x168x768) ![6, 0, 384] S1x168x320.size inb_S8x168x768_S1x168x320_6_0_384, hi x1 (smp x0 6)⟩
      :: ⟨Rect.unit (s := S8x168x768) ![6, 0, 0] S1x168x320.size inb_S8x168x768_S1x168x320_6_0_0, lo x1 (smp x0 6)⟩ :: (kernelRun0_A.sl.HS0_13 (F := Ideal) c arg2 harg2 arg3 harg3 x0 x1) := by
  have e0 := rd_smp arg2 harg2 x0 6 inb_S8x320x320_S1x320x320_6_0_0
  have e1 := rd_tab arg3 harg3 x1 inb_S336x320_S336x320_0_0
  rw [← lo_6 x1 (smp x0 6), ← hi_6 x1 (smp x0 6), ← e0]
  nth_rewrite 2 [← e1]
  nth_rewrite 3 [← e1]
  rfl

theorem A_pad6 : Pad0 (arg6.view.read (Elt Ideal) (arg6.view.writes (Elt Ideal) arg6.view.junk (kernelRun0_A.sl.HS0_15 (F := Ideal) c arg2 harg2 arg3 harg3 x0 x1))) := by
  rw [A_hs6]
  exact pad_step arg6.view arg6.view.junk 6 inb_S8x168x768_S1x168x320_6_0_0 inb_S8x168x768_S1x168x320_6_0_384 _ _ _ (A_pad5 c arg2 harg2 arg3 harg3 arg6 x0 x1)

theorem A_v6 : kernelRun0_A.sl.v135 (F := Ideal) c arg2 harg2 arg3 harg3 arg6 x0 x1 = row x0 x1 6 := by
  funext y
  obtain ⟨a, k, p, rfl⟩ : ∃ (a : Fin 1) (k : Fin 168) (p : Fin 768), y = ix3 a k p := ⟨y 0, y 1, y 2, eq_ix3 y⟩
  obtain rfl : a = 0 := Subsingleton.elim _ _
  unfold kernelRun0_A.sl.v135
  rw [A_hs6]
  exact row_load arg6.view arg6.view.junk 6 inb_S8x168x768_S1x168x320_6_0_0 inb_S8x168x768_S1x168x320_6_0_384 inb_S8x168x768_S1x168x768_6_0_0 _ _ _ (A_pad5 c arg2 harg2 arg3 harg3 arg6 x0 x1) k p

theorem A_hs7 : kernelRun0_A.sl.HS0_17 (F := Ideal) c arg2 harg2 arg3 harg3 x0 x1 = ⟨Rect.unit (s := S8x168x768) ![7, 0, 384] S1x168x320.size inb_S8x168x768_S1x168x320_7_0_384, hi x1 (smp x0 7)⟩
      :: ⟨Rect.unit (s := S8x168x768) ![7, 0, 0] S1x168x320.size inb_S8x168x768_S1x168x320_7_0_0, lo x1 (smp x0 7)⟩ :: (kernelRun0_A.sl.HS0_15 (F := Ideal) c arg2 harg2 arg3 harg3 x0 x1) := by
  have e0 := rd_smp arg2 harg2 x0 7 inb_S8x320x320_S1x320x320_7_0_0
  have e1 := rd_tab arg3 harg3 x1 inb_S336x320_S336x320_0_0
  rw [← lo_7 x1 (smp x0 7), ← hi_7 x1 (smp x0 7), ← e0]
  nth_rewrite 2 [← e1]
  nth_rewrite 3 [← e1]
  rfl

theorem A_pad7 : Pad0 (arg6.view.read (Elt Ideal) (arg6.view.writes (Elt Ideal) arg6.view.junk (kernelRun0_A.sl.HS0_17 (F := Ideal) c arg2 harg2 arg3 harg3 x0 x1))) := by
  rw [A_hs7]
  exact pad_step arg6.view arg6.view.junk 7 inb_S8x168x768_S1x168x320_7_0_0 inb_S8x168x768_S1x168x320_7_0_384 _ _ _ (A_pad6 c arg2 harg2 arg3 harg3 arg6 x0 x1)

theorem A_v7 : kernelRun0_A.sl.v155 (F := Ideal) c arg2 harg2 arg3 harg3 arg6 x0 x1 = row x0 x1 7 := by
  funext y
  obtain ⟨a, k, p, rfl⟩ : ∃ (a : Fin 1) (k : Fin 168) (p : Fin 768), y = ix3 a k p := ⟨y 0, y 1, y 2, eq_ix3 y⟩
  obtain rfl : a = 0 := Subsingleton.elim _ _
  unfold kernelRun0_A.sl.v155
  rw [A_hs7]
  exact row_load arg6.view arg6.view.junk 7 inb_S8x168x768_S1x168x320_7_0_0 inb_S8x168x768_S1x168x320_7_0_384 inb_S8x168x768_S1x168x768_7_0_0 _ _ _ (A_pad6 c arg2 harg2 arg3 harg3 arg6 x0 x1) k p

theorem A_r (k : Fin 168) (q : Fin 640) : kernelRun0_A.sl.r (F := Ideal) c arg2 harg2 arg3 harg3 arg4 harg4 arg6 x0 x1 x2 (ix2 k q) = sqr (row x0 x1 0) x2 k q := by
  have h : kernelRun0_A.sl.r (F := Ideal) c arg2 harg2 arg3 harg3 arg4 harg4 arg6 x0 x1 x2 = k0_pay10 (F := Ideal) (kernelRun0_A.sl.v16 c arg2 harg2 arg3 harg3 arg6 x0 x1) x2 := by
    unfold kernelRun0_A.sl.r
    exact congrArg (fun z => k0_pay10 (F := Ideal) (kernelRun0_A.sl.v16 c arg2 harg2 arg3 harg3 arg6 x0 x1) z) (rd_tab2 arg4 harg4 x2 inb_S768x640_S768x640_0_0)
  rw [h, A_v0 c arg2 harg2 arg3 harg3 arg6 x0 x1, sum_0]

theorem A_r_3 (k : Fin 168) (q : Fin 640) : kernelRun0_A.sl.r_3 (F := Ideal) c arg2 harg2 arg3 harg3 arg4 harg4 arg6 x0 x1 x2 (ix2 k q) = sqr (row x0 x1 0) x2 k q + sqr (row x0 x1 1) x2 k q := by
  have h : kernelRun0_A.sl.r_3 (F := Ideal) c arg2 harg2 arg3 harg3 arg4 harg4 arg6 x0 x1 x2 = k0_pay15 (F := Ideal) (kernelRun0_A.sl.r (F := Ideal) c arg2 harg2 arg3 harg3 arg4 harg4 arg6 x0 x1 x2) (kernelRun0_A.sl.v35 c arg2 harg2 arg3 harg3 arg6 x0 x1) x2 := by
    unfold kernelRun0_A.sl.r_3
    exact congrArg (fun z => k0_pay15 (F := Ideal) (kernelRun0_A.sl.r (F := Ideal) c arg2 harg2 arg3 harg3 arg4 harg4 arg6 x0 x1 x2) (kernelRun0_A.sl.v35 c arg2 harg2 arg3 harg3 arg6 x0 x1) z) (rd_tab2 arg4 harg4 x2 inb_S768x640_S768x640_0_0)
  rw [h, A_v1 c arg2 harg2 arg3 harg3 arg6 x0 x1, sum_1, A_r c arg2 harg2 arg3 harg3 arg4 harg4 arg6 x0 x1 x2]

theorem A_r_5 (k : Fin 168) (q : Fin 640) : kernelRun0_A.sl.r_5 (F := Ideal) c arg2 harg2 arg3 harg3 arg4 harg4 arg6 x0 x1 x2 (ix2 k q) = sqr (row x0 x1 0) x2 k q + sqr (row x0 x1 1) x2 k q + sqr (row x0 x1 2) x2 k q + sqr (row x0 x1 3) x2 k q := by
  have h : kernelRun0_A.sl.r_5 (F := Ideal) c arg2 harg2 arg3 harg3 arg4 harg4 arg6 x0 x1 x2 = k0_pay23 (F := Ideal) (kernelRun0_A.sl.r_3 (F := Ideal) c arg2 harg2 arg3 harg3 arg4 harg4 arg6 x0 x1 x2) (k0_pay19 (kernelRun0_A.sl.v55 c arg2 harg2 arg3 harg3 arg6 x0 x1)) x2 (kernelRun0_A.sl.v75 c arg2 harg2 arg3 harg3 arg6 x0 x1) x2 := by
    unfold kernelRun0_A.sl.r_5 kernelRun0_A.sl.r_4
    exact congrArg (fun z => k0_pay23 (F := Ideal) (kernelRun0_A.sl.r_3 (F := Ideal) c arg2 harg2 arg3 harg3 arg4 harg4 arg6 x0 x1 x2) (k0_pay19 (kernelRun0_A.sl.v55 c arg2 harg2 arg3 harg3 arg6 x0 x1)) z (kernelRun0_A.sl.v75 c arg2 harg2 arg3 harg3 arg6 x0 x1) z) (rd_tab2 arg4 harg4 x2 inb_S768x640_S768x640_0_0)
  rw [h, A_v2 c arg2 harg2 arg3 harg3 arg6 x0 x1, A_v3 c arg2 harg2 arg3 harg3 arg6 x0 x1, sum_2, A_r_3 c arg2 harg2 arg3 harg3 arg4 harg4 arg6 x0 x1 x2]

theorem A_r_8 (k : Fin 168) (q : Fin 640) : kernelRun0_A.sl.r_8 (F := Ideal) c arg2 harg2 arg3 harg3 arg4 harg4 arg6 x0 x1 x2 (ix2 k q) = sqr (row x0 x1 0) x2 k q + sqr (row x0 x1 1) x2 k q + sqr (row x0 x1 2) x2 k q + sqr (row x0 x1 3) x2 k q + sqr (row x0 x1 4) x2 k q := by
  have h : kernelRun0_A.sl.r_8 (F := Ideal) c arg2 harg2 arg3 harg3 arg4 harg4 arg6 x0 x1 x2 = k0_pay28 (F := Ideal) (kernelRun0_A.sl.r_5 (F := Ideal) c arg2 harg2 arg3 harg3 arg4 harg4 arg6 x0 x1 x2) (kernelRun0_A.sl.v95 c arg2 harg2 arg3 harg3 arg6 x0 x1) x2 := by
    unfold kernelRun0_A.sl.r_8
    exact congrArg (fun z => k0_pay28 (F := Ideal) (kernelRun0_A.sl.r_5 (F := Ideal) c arg2 harg2 arg3 harg3 arg4 harg4 arg6 x0 x1 x2) (kernelRun0_A.sl.v95 c arg2 harg2 arg3 harg3 arg6 x0 x1) z) (rd_tab2 arg4 harg4 x2 inb_S768x640_S768x640_0_0)
  rw [h, A_v4 c arg2 harg2 arg3 harg3 arg6 x0 x1, sum_3, A_r_5 c arg2 harg2 arg3 harg3 arg4 harg4 arg6 x0 x1 x2]

theorem A_r_10 (k : Fin 168) (q : Fin 640) : kernelRun0_A.sl.r_10 (F := Ideal) c arg2 harg2 arg3 harg3 arg4 harg4 arg6 x0 x1 x2 (ix2 k q) = sqr (row x0 x1 0) x2 k q + sqr (row x0 x1 1) x2 k q + sqr (row x0 x1 2) x2 k q + sqr (row x0 x1 3) x2 k q + sqr (row x0 x1 4) x2 k q + sqr (row x0 x1 5) x2 k q + sqr (row x0 x1 6) x2 k q := by
  have h : kernelRun0_A.sl.r_10 (F := Ideal) c arg2 harg2 arg3 harg3 arg4 harg4 arg6 x0 x1 x2 = k0_pay36 (F := Ideal) (kernelRun0_A.sl.r_8 (F := Ideal) c arg2 harg2 arg3 harg3 arg4 harg4 arg6 x0 x1 x2) (k0_pay32 (kernelRun0_A.sl.v115 c arg2 harg2 arg3 harg3 arg6 x0 x1)) x2 (kernelRun0_A.sl.v135 c arg2 harg2 arg3 harg3 arg6 x0 x1) x2 := by
    unfold kernelRun0_A.sl.r_10 kernelRun0_A.sl.r_9
    exact congrArg (fun z => k0_pay36 (F := Ideal) (kernelRun0_A.sl.r_8 (F := Ideal) c arg2 harg2 arg3 harg3 arg4 harg4 arg6 x0 x1 x2) (k0_pay32 (kernelRun0_A.sl.v115 c arg2 harg2 arg3 harg3 arg6 x0 x1)) z (kernelRun0_A.sl.v135 c arg2 harg2 arg3 harg3 arg6 x0 x1) z) (rd_tab2 arg4 harg4 x2 inb_S768x640_S768x640_0_0)
  rw [h, A_v5 c arg2 harg2 arg3 harg3 arg6 x0 x1, A_v6 c arg2 harg2 arg3 harg3 arg6 x0 x1, sum_4, A_r_8 c arg2 harg2 arg3 harg3 arg4 harg4 arg6 x0 x1 x2]

/-- What case A leaves in the output block. -/
theorem out_A (hc0 : cond0_0 i) (hc1 : cond0_1 i) (hc2 : ¬cond0_2 i) (k : Fin 168) (q : Fin 640) :
    out0_A_3 (F := Ideal) c i arg2 harg2 arg3 harg3 arg4 harg4 arg5 harg5 arg6 harg6 hc0 hc1 hc2 x0 x1 x2 (ix3 0 k q) = stepSum x0 x1 x2 k q := by
  have e2 := rd_tab2 arg4 harg4 x2 inb_S768x640_S768x640_0_0
  have h : out0_A_3 (F := Ideal) c i arg2 harg2 arg3 harg3 arg4 harg4 arg5 harg5 arg6 harg6 hc0 hc1 hc2 x0 x1 x2 = k0_pay4 (F := Ideal) (kernelRun0_A.sl.r_10 (F := Ideal) c arg2 harg2 arg3 harg3 arg4 harg4 arg6 x0 x1 x2) (kernelRun0_A.sl.v155 c arg2 harg2 arg3 harg3 arg6 x0 x1) x2 := by
    unfold out0_A_3
    rw [View.read_writes_eq_canon _ _ _ (cover0_A_3 c i arg2 harg2 arg3 harg3 arg4 harg4 arg5 harg5 arg6 harg6 hc0 hc1 hc2 x0 x1 x2)]
    unfold kernelRun0_A
    dsimp only
    rw [View.canon_unit_zero hz3]
    exact congrArg (fun z => k0_pay4 (F := Ideal) (kernelRun0_A.sl.r_10 (F := Ideal) c arg2 harg2 arg3 harg3 arg4 harg4 arg6 x0 x1 x2) (kernelRun0_A.sl.v155 c arg2 harg2 arg3 harg3 arg6 x0 x1) z) e2
  rw [h, A_v7 c arg2 harg2 arg3 harg3 arg6 x0 x1, sum_A, A_r_10 c arg2 harg2 arg3 harg3 arg4 harg4 arg6 x0 x1 x2]
  unfold stepSum
  rw [Fin.sum_univ_eight]

/-- What case A leaves in the scratch keeps its padding columns zero. -/
theorem sout_A (hc0 : cond0_0 i) (hc1 : cond0_1 i) (hc2 : ¬cond0_2 i) : Pad0 (sout0_A_0 (F := Ideal) c i arg2 harg2 arg3 harg3 arg4 harg4 arg5 harg5 arg6 harg6 hc0 hc1 hc2 x0 x1 x2) := by
  exact A_pad7 c arg2 harg2 arg3 harg3 (Memref.whole cc0_scratch0) x0 x1

/-- Case B starts from the scratch the step before left. -/
theorem B_base (hp : Pad0 xs0) : Pad0 (arg6.view.read (Elt Ideal) (arg6.view.writes (Elt Ideal) (harg6.unread xs0) [])) := by
  rw [View.writes_nil, harg6.read_unread]
  exact hp

theorem B_hs0 : kernelRun0_B.sl.HS0_2 (F := Ideal) c arg2 harg2 arg3 harg3 x0 x1 = ⟨Rect.unit (s := S8x168x768) ![0, 0, 384] S1x168x320.size inb_S8x168x768_S1x168x320_0_0_384, hi x1 (smp x0 0)⟩
      :: ⟨Rect.unit (s := S8x168x768) ![0, 0, 0] S1x168x320.size inb_S8x168x768_S1x168x320_0_0_0, lo x1 (smp x0 0)⟩ :: [] := by
  have e0 := rd_smp arg2 harg2 x0 0 inb_S8x320x320_S1x320x320_0_0_0
  have e1 := rd_tab arg3 harg3 x1 inb_S336x320_S336x320_0_0
  rw [← lo_0 x1 (smp x0 0), ← hi_0 x1 (smp x0 0), ← e0]
  nth_rewrite 2 [← e1]
  nth_rewrite 3 [← e1]
  rfl

theorem B_pad0 (hp : Pad0 xs0) : Pad0 (arg6.view.read (Elt Ideal) (arg6.view.writes (Elt Ideal) (harg6.unread xs0) (kernelRun0_B.sl.HS0_2 (F := Ideal) c arg2 harg2 arg3 harg3 x0 x1))) := by
  rw [B_hs0]
  exact pad_step arg6.view (harg6.unread xs0) 0 inb_S8x168x768_S1x168x320_0_0_0 inb_S8x168x768_S1x168x320_0_0_384 _ _ _ (B_base arg6 harg6 xs0 hp)

theorem B_v0 (hp : Pad0 xs0) : kernelRun0_B.sl.v16 (F := Ideal) c arg2 harg2 arg3 harg3 arg6 harg6 x0 x1 xs0 = row x0 x1 0 := by
  funext y
  obtain ⟨a, k, p, rfl⟩ : ∃ (a : Fin 1) (k : Fin 168) (p : Fin 768), y = ix3 a k p := ⟨y 0, y 1, y 2, eq_ix3 y⟩
  obtain rfl : a = 0 := Subsingleton.elim _ _
  unfold kernelRun0_B.sl.v16
  rw [B_hs0]
  exact row_load arg6.view (harg6.unread xs0) 0 inb_S8x168x768_S1x168x320_0_0_0 inb_S8x168x768_S1x168x320_0_0_384 inb_S8x168x768_S1x168x768_0_0_0 _ _ _ (B_base arg6 harg6 xs0 hp) k p

theorem B_hs1 : kernelRun0_B.sl.HS0_4 (F := Ideal) c arg2 harg2 arg3 harg3 x0 x1 = ⟨Rect.unit (s := S8x168x768) ![1, 0, 384] S1x168x320.size inb_S8x168x768_S1x168x320_1_0_384, hi x1 (smp x0 1)⟩
      :: ⟨Rect.unit (s := S8x168x768) ![1, 0, 0] S1x168x320.size inb_S8x168x768_S1x168x320_1_0_0, lo x1 (smp x0 1)⟩ :: (kernelRun0_B.sl.HS0_2 (F := Ideal) c arg2 harg2 arg3 harg3 x0 x1) := by
  have e0 := rd_smp arg2 harg2 x0 1 inb_S8x320x320_S1x320x320_1_0_0
  have e1 := rd_tab arg3 harg3 x1 inb_S336x320_S336x320_0_0
  rw [← lo_1 x1 (smp x0 1), ← hi_1 x1 (smp x0 1), ← e0]
  nth_rewrite 2 [← e1]
  nth_rewrite 3 [← e1]
  rfl

theorem B_pad1 (hp : Pad0 xs0) : Pad0 (arg6.view.read (Elt Ideal) (arg6.view.writes (Elt Ideal) (harg6.unread xs0) (kernelRun0_B.sl.HS0_4 (F := Ideal) c arg2 harg2 arg3 harg3 x0 x1))) := by
  rw [B_hs1]
  exact pad_step arg6.view (harg6.unread xs0) 1 inb_S8x168x768_S1x168x320_1_0_0 inb_S8x168x768_S1x168x320_1_0_384 _ _ _ (B_pad0 c arg2 harg2 arg3 harg3 arg6 harg6 x0 x1 xs0 hp)

theorem B_v1 (hp : Pad0 xs0) : kernelRun0_B.sl.v35 (F := Ideal) c arg2 harg2 arg3 harg3 arg6 harg6 x0 x1 xs0 = row x0 x1 1 := by
  funext y
  obtain ⟨a, k, p, rfl⟩ : ∃ (a : Fin 1) (k : Fin 168) (p : Fin 768), y = ix3 a k p := ⟨y 0, y 1, y 2, eq_ix3 y⟩
  obtain rfl : a = 0 := Subsingleton.elim _ _
  unfold kernelRun0_B.sl.v35
  rw [B_hs1]
  exact row_load arg6.view (harg6.unread xs0) 1 inb_S8x168x768_S1x168x320_1_0_0 inb_S8x168x768_S1x168x320_1_0_384 inb_S8x168x768_S1x168x768_1_0_0 _ _ _ (B_pad0 c arg2 harg2 arg3 harg3 arg6 harg6 x0 x1 xs0 hp) k p

theorem B_hs2 : kernelRun0_B.sl.HS0_6 (F := Ideal) c arg2 harg2 arg3 harg3 x0 x1 = ⟨Rect.unit (s := S8x168x768) ![2, 0, 384] S1x168x320.size inb_S8x168x768_S1x168x320_2_0_384, hi x1 (smp x0 2)⟩
      :: ⟨Rect.unit (s := S8x168x768) ![2, 0, 0] S1x168x320.size inb_S8x168x768_S1x168x320_2_0_0, lo x1 (smp x0 2)⟩ :: (kernelRun0_B.sl.HS0_4 (F := Ideal) c arg2 harg2 arg3 harg3 x0 x1) := by
  have e0 := rd_smp arg2 harg2 x0 2 inb_S8x320x320_S1x320x320_2_0_0
  have e1 := rd_tab arg3 harg3 x1 inb_S336x320_S336x320_0_0
  rw [← lo_2 x1 (smp x0 2), ← hi_2 x1 (smp x0 2), ← e0]
  nth_rewrite 2 [← e1]
  nth_rewrite 3 [← e1]
  rfl

theorem B_pad2 (hp : Pad0 xs0) : Pad0 (arg6.view.read (Elt Ideal) (arg6.view.writes (Elt Ideal) (harg6.unread xs0) (kernelRun0_B.sl.HS0_6 (F := Ideal) c arg2 harg2 arg3 harg3 x0 x1))) := by
  rw [B_hs2]
  exact pad_step arg6.view (harg6.unread xs0) 2 inb_S8x168x768_S1x168x320_2_0_0 inb_S8x168x768_S1x168x320_2_0_384 _ _ _ (B_pad1 c arg2 harg2 arg3 harg3 arg6 harg6 x0 x1 xs0 hp)

theorem B_v2 (hp : Pad0 xs0) : kernelRun0_B.sl.v55 (F := Ideal) c arg2 harg2 arg3 harg3 arg6 harg6 x0 x1 xs0 = row x0 x1 2 := by
  funext y
  obtain ⟨a, k, p, rfl⟩ : ∃ (a : Fin 1) (k : Fin 168) (p : Fin 768), y = ix3 a k p := ⟨y 0, y 1, y 2, eq_ix3 y⟩
  obtain rfl : a = 0 := Subsingleton.elim _ _
  unfold kernelRun0_B.sl.v55
  rw [B_hs2]
  exact row_load arg6.view (harg6.unread xs0) 2 inb_S8x168x768_S1x168x320_2_0_0 inb_S8x168x768_S1x168x320_2_0_384 inb_S8x168x768_S1x168x768_2_0_0 _ _ _ (B_pad1 c arg2 harg2 arg3 harg3 arg6 harg6 x0 x1 xs0 hp) k p

theorem B_hs3 : kernelRun0_B.sl.HS0_8 (F := Ideal) c arg2 harg2 arg3 harg3 x0 x1 = ⟨Rect.unit (s := S8x168x768) ![3, 0, 384] S1x168x320.size inb_S8x168x768_S1x168x320_3_0_384, hi x1 (smp x0 3)⟩
      :: ⟨Rect.unit (s := S8x168x768) ![3, 0, 0] S1x168x320.size inb_S8x168x768_S1x168x320_3_0_0, lo x1 (smp x0 3)⟩ :: (kernelRun0_B.sl.HS0_6 (F := Ideal) c arg2 harg2 arg3 harg3 x0 x1) := by
  have e0 := rd_smp arg2 harg2 x0 3 inb_S8x320x320_S1x320x320_3_0_0
  have e1 := rd_tab arg3 harg3 x1 inb_S336x320_S336x320_0_0
  rw [← lo_3 x1 (smp x0 3), ← hi_3 x1 (smp x0 3), ← e0]
  nth_rewrite 2 [← e1]
  nth_rewrite 3 [← e1]
  rfl

theorem B_pad3 (hp : Pad0 xs0) : Pad0 (arg6.view.read (Elt Ideal) (arg6.view.writes (Elt Ideal) (harg6.unread xs0) (kernelRun0_B.sl.HS0_8 (F := Ideal) c arg2 harg2 arg3 harg3 x0 x1))) := by
  rw [B_hs3]
  exact pad_step arg6.view (harg6.unread xs0) 3 inb_S8x168x768_S1x168x320_3_0_0 inb_S8x168x768_S1x168x320_3_0_384 _ _ _ (B_pad2 c arg2 harg2 arg3 harg3 arg6 harg6 x0 x1 xs0 hp)

theorem B_v3 (hp : Pad0 xs0) : kernelRun0_B.sl.v75 (F := Ideal) c arg2 harg2 arg3 harg3 arg6 harg6 x0 x1 xs0 = row x0 x1 3 := by
  funext y
  obtain ⟨a, k, p, rfl⟩ : ∃ (a : Fin 1) (k : Fin 168) (p : Fin 768), y = ix3 a k p := ⟨y 0, y 1, y 2, eq_ix3 y⟩
  obtain rfl : a = 0 := Subsingleton.elim _ _
  unfold kernelRun0_B.sl.v75
  rw [B_hs3]
  exact row_load arg6.view (harg6.unread xs0) 3 inb_S8x168x768_S1x168x320_3_0_0 inb_S8x168x768_S1x168x320_3_0_384 inb_S8x168x768_S1x168x768_3_0_0 _ _ _ (B_pad2 c arg2 harg2 arg3 harg3 arg6 harg6 x0 x1 xs0 hp) k p

theorem B_hs4 : kernelRun0_B.sl.HS0_10 (F := Ideal) c arg2 harg2 arg3 harg3 x0 x1 = ⟨Rect.unit (s := S8x168x768) ![4, 0, 384] S1x168x320.size inb_S8x168x768_S1x168x320_4_0_384, hi x1 (smp x0 4)⟩
      :: ⟨Rect.unit (s := S8x168x768) ![4, 0, 0] S1x168x320.size inb_S8x168x768_S1x168x320_4_0_0, lo x1 (smp x0 4)⟩ :: (kernelRun0_B.sl.HS0_8 (F := Ideal) c arg2 harg2 arg3 harg3 x0 x1) := by
  have e0 := rd_smp arg2 harg2 x0 4 inb_S8x320x320_S1x320x320_4_0_0
  have e1 := rd_tab arg3 harg3 x1 inb_S336x320_S336x320_0_0
  rw [← lo_4 x1 (smp x0 4), ← hi_4 x1 (smp x0 4), ← e0]
  nth_rewrite 2 [← e1]
  nth_rewrite 3 [← e1]
  rfl

theorem B_pad4 (hp : Pad0 xs0) : Pad0 (arg6.view.read (Elt Ideal) (arg6.view.writes (Elt Ideal) (harg6.unread xs0) (kernelRun0_B.sl.HS0_10 (F := Ideal) c arg2 harg2 arg3 harg3 x0 x1))) := by
  rw [B_hs4]
  exact pad_step arg6.view (harg6.unread xs0) 4 inb_S8x168x768_S1x168x320_4_0_0 inb_S8x168x768_S1x168x320_4_0_384 _ _ _ (B_pad3 c arg2 harg2 arg3 harg3 arg6 harg6 x0 x1 xs0 hp)

theorem B_v4 (hp : Pad0 xs0) : kernelRun0_B.sl.v95 (F := Ideal) c arg2 harg2 arg3 harg3 arg6 harg6 x0 x1 xs0 = row x0 x1 4 := by
  funext y
  obtain ⟨a, k, p, rfl⟩ : ∃ (a : Fin 1) (k : Fin 168) (p : Fin 768), y = ix3 a k p := ⟨y 0, y 1, y 2, eq_ix3 y⟩
  obtain rfl : a = 0 := Subsingleton.elim _ _
  unfold kernelRun0_B.sl.v95
  rw [B_hs4]
  exact row_load arg6.view (harg6.unread xs0) 4 inb_S8x168x768_S1x168x320_4_0_0 inb_S8x168x768_S1x168x320_4_0_384 inb_S8x168x768_S1x168x768_4_0_0 _ _ _ (B_pad3 c arg2 harg2 arg3 harg3 arg6 harg6 x0 x1 xs0 hp) k p

theorem B_hs5 : kernelRun0_B.sl.HS0_12 (F := Ideal) c arg2 harg2 arg3 harg3 x0 x1 = ⟨Rect.unit (s := S8x168x768) ![5, 0, 384] S1x168x320.size inb_S8x168x768_S1x168x320_5_0_384, hi x1 (smp x0 5)⟩
      :: ⟨Rect.unit (s := S8x168x768) ![5, 0, 0] S1x168x320.size inb_S8x168x768_S1x168x320_5_0_0, lo x1 (smp x0 5)⟩ :: (kernelRun0_B.sl.HS0_10 (F := Ideal) c arg2 harg2 arg3 harg3 x0 x1) := by
  have e0 := rd_smp arg2 harg2 x0 5 inb_S8x320x320_S1x320x320_5_0_0
  have e1 := rd_tab arg3 harg3 x1 inb_S336x320_S336x320_0_0
  rw [← lo_5 x1 (smp x0 5), ← hi_5 x1 (smp x0 5), ← e0]
  nth_rewrite 2 [← e1]
  nth_rewrite 3 [← e1]
  rfl

theorem B_pad5 (hp : Pad0 xs0) : Pad0 (arg6.view.read (Elt Ideal) (arg6.view.writes (Elt Ideal) (harg6.unread xs0) (kernelRun0_B.sl.HS0_12 (F := Ideal) c arg2 harg2 arg3 harg3 x0 x1))) := by
  rw [B_hs5]
  exact pad_step arg6.view (harg6.unread xs0) 5 inb_S8x168x768_S1x168x320_5_0_0 inb_S8x168x768_S1x168x320_5_0_384 _ _ _ (B_pad4 c arg2 harg2 arg3 harg3 arg6 harg6 x0 x1 xs0 hp)

theorem B_v5 (hp : Pad0 xs0) : kernelRun0_B.sl.v115 (F := Ideal) c arg2 harg2 arg3 harg3 arg6 harg6 x0 x1 xs0 = row x0 x1 5 := by
  funext y
  obtain ⟨a, k, p, rfl⟩ : ∃ (a : Fin 1) (k : Fin 168) (p : Fin 768), y = ix3 a k p := ⟨y 0, y 1, y 2, eq_ix3 y⟩
  obtain rfl : a = 0 := Subsingleton.elim _ _
  unfold kernelRun0_B.sl.v115
  rw [B_hs5]
  exact row_load arg6.view (harg6.unread xs0) 5 inb_S8x168x768_S1x168x320_5_0_0 inb_S8x168x768_S1x168x320_5_0_384 inb_S8x168x768_S1x168x768_5_0_0 _ _ _ (B_pad4 c arg2 harg2 arg3 harg3 arg6 harg6 x0 x1 xs0 hp) k p

theorem B_hs6 : kernelRun0_B.sl.HS0_14 (F := Ideal) c arg2 harg2 arg3 harg3 x0 x1 = ⟨Rect.unit (s := S8x168x768) ![6, 0, 384] S1x168x320.size inb_S8x168x768_S1x168x320_6_0_384, hi x1 (smp x0 6)⟩
      :: ⟨Rect.unit (s := S8x168x768) ![6, 0, 0] S1x168x320.size inb_S8x168x768_S1x168x320_6_0_0, lo x1 (smp x0 6)⟩ :: (kernelRun0_B.sl.HS0_12 (F := Ideal) c arg2 harg2 arg3 harg3 x0 x1) := by
  have e0 := rd_smp arg2 harg2 x0 6 inb_S8x320x320_S1x320x320_6_0_0
  have e1 := rd_tab arg3 harg3 x1 inb_S336x320_S336x320_0_0
  rw [← lo_6 x1 (smp x0 6), ← hi_6 x1 (smp x0 6), ← e0]
  nth_rewrite 2 [← e1]
  nth_rewrite 3 [← e1]
  rfl

theorem B_pad6 (hp : Pad0 xs0) : Pad0 (arg6.view.read (Elt Ideal) (arg6.view.writes (Elt Ideal) (harg6.unread xs0) (kernelRun0_B.sl.HS0_14 (F := Ideal) c arg2 harg2 arg3 harg3 x0 x1))) := by
  rw [B_hs6]
  exact pad_step arg6.view (harg6.unread xs0) 6 inb_S8x168x768_S1x168x320_6_0_0 inb_S8x168x768_S1x168x320_6_0_384 _ _ _ (B_pad5 c arg2 harg2 arg3 harg3 arg6 harg6 x0 x1 xs0 hp)

theorem B_v6 (hp : Pad0 xs0) : kernelRun0_B.sl.v135 (F := Ideal) c arg2 harg2 arg3 harg3 arg6 harg6 x0 x1 xs0 = row x0 x1 6 := by
  funext y
  obtain ⟨a, k, p, rfl⟩ : ∃ (a : Fin 1) (k : Fin 168) (p : Fin 768), y = ix3 a k p := ⟨y 0, y 1, y 2, eq_ix3 y⟩
  obtain rfl : a = 0 := Subsingleton.elim _ _
  unfold kernelRun0_B.sl.v135
  rw [B_hs6]
  exact row_load arg6.view (harg6.unread xs0) 6 inb_S8x168x768_S1x168x320_6_0_0 inb_S8x168x768_S1x168x320_6_0_384 inb_S8x168x768_S1x168x768_6_0_0 _ _ _ (B_pad5 c arg2 harg2 arg3 harg3 arg6 harg6 x0 x1 xs0 hp) k p

theorem B_hs7 : kernelRun0_B.sl.HS0_16 (F := Ideal) c arg2 harg2 arg3 harg3 x0 x1 = ⟨Rect.unit (s := S8x168x768) ![7, 0, 384] S1x168x320.size inb_S8x168x768_S1x168x320_7_0_384, hi x1 (smp x0 7)⟩
      :: ⟨Rect.unit (s := S8x168x768) ![7, 0, 0] S1x168x320.size inb_S8x168x768_S1x168x320_7_0_0, lo x1 (smp x0 7)⟩ :: (kernelRun0_B.sl.HS0_14 (F := Ideal) c arg2 harg2 arg3 harg3 x0 x1) := by
  have e0 := rd_smp arg2 harg2 x0 7 inb_S8x320x320_S1x320x320_7_0_0
  have e1 := rd_tab arg3 harg3 x1 inb_S336x320_S336x320_0_0
  rw [← lo_7 x1 (smp x0 7), ← hi_7 x1 (smp x0 7), ← e0]
  nth_rewrite 2 [← e1]
  nth_rewrite 3 [← e1]
  rfl

theorem B_pad7 (hp : Pad0 xs0) : Pad0 (arg6.view.read (Elt Ideal) (arg6.view.writes (Elt Ideal) (harg6.unread xs0) (kernelRun0_B.sl.HS0_16 (F := Ideal) c arg2 harg2 arg3 harg3 x0 x1))) := by
  rw [B_hs7]
  exact pad_step arg6.view (harg6.unread xs0) 7 inb_S8x168x768_S1x168x320_7_0_0 inb_S8x168x768_S1x168x320_7_0_384 _ _ _ (B_pad6 c arg2 harg2 arg3 harg3 arg6 harg6 x0 x1 xs0 hp)

theorem B_v7 (hp : Pad0 xs0) : kernelRun0_B.sl.v155 (F := Ideal) c arg2 harg2 arg3 harg3 arg6 harg6 x0 x1 xs0 = row x0 x1 7 := by
  funext y
  obtain ⟨a, k, p, rfl⟩ : ∃ (a : Fin 1) (k : Fin 168) (p : Fin 768), y = ix3 a k p := ⟨y 0, y 1, y 2, eq_ix3 y⟩
  obtain rfl : a = 0 := Subsingleton.elim _ _
  unfold kernelRun0_B.sl.v155
  rw [B_hs7]
  exact row_load arg6.view (harg6.unread xs0) 7 inb_S8x168x768_S1x168x320_7_0_0 inb_S8x168x768_S1x168x320_7_0_384 inb_S8x168x768_S1x168x768_7_0_0 _ _ _ (B_pad6 c arg2 harg2 arg3 harg3 arg6 harg6 x0 x1 xs0 hp) k p

theorem B_r (hp : Pad0 xs0) (k : Fin 168) (q : Fin 640) : kernelRun0_B.sl.r (F := Ideal) c arg2 harg2 arg3 harg3 arg4 harg4 arg6 harg6 x0 x1 x2 xs0 (ix2 k q) = sqr (row x0 x1 0) x2 k q := by
  have h : kernelRun0_B.sl.r (F := Ideal) c arg2 harg2 arg3 harg3 arg4 harg4 arg6 harg6 x0 x1 x2 xs0 = k0_pay10 (F := Ideal) (kernelRun0_B.sl.v16 c arg2 harg2 arg3 harg3 arg6 harg6 x0 x1 xs0) x2 := by
    unfold kernelRun0_B.sl.r
    exact congrArg (fun z => k0_pay10 (F := Ideal) (kernelRun0_B.sl.v16 c arg2 harg2 arg3 harg3 arg6 harg6 x0 x1 xs0) z) (rd_tab2 arg4 harg4 x2 inb_S768x640_S768x640_0_0)
  rw [h, B_v0 c arg2 harg2 arg3 harg3 arg6 harg6 x0 x1 xs0 hp, sum_0]

theorem B_r_3 (hp : Pad0 xs0) (k : Fin 168) (q : Fin 640) : kernelRun0_B.sl.r_3 (F := Ideal) c arg2 harg2 arg3 harg3 arg4 harg4 arg6 harg6 x0 x1 x2 xs0 (ix2 k q) = sqr (row x0 x1 0) x2 k q + sqr (row x0 x1 1) x2 k q := by
  have h : kernelRun0_B.sl.r_3 (F := Ideal) c arg2 harg2 arg3 harg3 arg4 harg4 arg6 harg6 x0 x1 x2 xs0 = k0_pay15 (F := Ideal) (kernelRun0_B.sl.r (F := Ideal) c arg2 harg2 arg3 harg3 arg4 harg4 arg6 harg6 x0 x1 x2 xs0) (kernelRun0_B.sl.v35 c arg2 harg2 arg3 harg3 arg6 harg6 x0 x1 xs0) x2 := by
    unfold kernelRun0_B.sl.r_3
    exact congrArg (fun z => k0_pay15 (F := Ideal) (kernelRun0_B.sl.r (F := Ideal) c arg2 harg2 arg3 harg3 arg4 harg4 arg6 harg6 x0 x1 x2 xs0) (kernelRun0_B.sl.v35 c arg2 harg2 arg3 harg3 arg6 harg6 x0 x1 xs0) z) (rd_tab2 arg4 harg4 x2 inb_S768x640_S768x640_0_0)
  rw [h, B_v1 c arg2 harg2 arg3 harg3 arg6 harg6 x0 x1 xs0 hp, sum_1, B_r c arg2 harg2 arg3 harg3 arg4 harg4 arg6 harg6 x0 x1 x2 xs0 hp]

theorem B_r_5 (hp : Pad0 xs0) (k : Fin 168) (q : Fin 640) : kernelRun0_B.sl.r_5 (F := Ideal) c arg2 harg2 arg3 harg3 arg4 harg4 arg6 harg6 x0 x1 x2 xs0 (ix2 k q) = sqr (row x0 x1 0) x2 k q + sqr (row x0 x1 1) x2 k q + sqr (row x0 x1 2) x2 k q + sqr (row x0 x1 3) x2 k q := by
  have h : kernelRun0_B.sl.r_5 (F := Ideal) c arg2 harg2 arg3 harg3 arg4 harg4 arg6 harg6 x0 x1 x2 xs0 = k0_pay23 (F := Ideal) (kernelRun0_B.sl.r_3 (F := Ideal) c arg2 harg2 arg3 harg3 arg4 harg4 arg6 harg6 x0 x1 x2 xs0) (k0_pay19 (kernelRun0_B.sl.v55 c arg2 harg2 arg3 harg3 arg6 harg6 x0 x1 xs0)) x2 (kernelRun0_B.sl.v75 c arg2 harg2 arg3 harg3 arg6 harg6 x0 x1 xs0) x2 := by
    unfold kernelRun0_B.sl.r_5 kernelRun0_B.sl.r_4
    exact congrArg (fun z => k0_pay23 (F := Ideal) (kernelRun0_B.sl.r_3 (F := Ideal) c arg2 harg2 arg3 harg3 arg4 harg4 arg6 harg6 x0 x1 x2 xs0) (k0_pay19 (kernelRun0_B.sl.v55 c arg2 harg2 arg3 harg3 arg6 harg6 x0 x1 xs0)) z (kernelRun0_B.sl.v75 c arg2 harg2 arg3 harg3 arg6 harg6 x0 x1 xs0) z) (rd_tab2 arg4 harg4 x2 inb_S768x640_S768x640_0_0)
  rw [h, B_v2 c arg2 harg2 arg3 harg3 arg6 harg6 x0 x1 xs0 hp, B_v3 c arg2 harg2 arg3 harg3 arg6 harg6 x0 x1 xs0 hp, sum_2, B_r_3 c arg2 harg2 arg3 harg3 arg4 harg4 arg6 harg6 x0 x1 x2 xs0 hp]

theorem B_r_8 (hp : Pad0 xs0) (k : Fin 168) (q : Fin 640) : kernelRun0_B.sl.r_8 (F := Ideal) c arg2 harg2 arg3 harg3 arg4 harg4 arg6 harg6 x0 x1 x2 xs0 (ix2 k q) = sqr (row x0 x1 0) x2 k q + sqr (row x0 x1 1) x2 k q + sqr (row x0 x1 2) x2 k q + sqr (row x0 x1 3) x2 k q + sqr (row x0 x1 4) x2 k q := by
  have h : kernelRun0_B.sl.r_8 (F := Ideal) c arg2 harg2 arg3 harg3 arg4 harg4 arg6 harg6 x0 x1 x2 xs0 = k0_pay28 (F := Ideal) (kernelRun0_B.sl.r_5 (F := Ideal) c arg2 harg2 arg3 harg3 arg4 harg4 arg6 harg6 x0 x1 x2 xs0) (kernelRun0_B.sl.v95 c arg2 harg2 arg3 harg3 arg6 harg6 x0 x1 xs0) x2 := by
    unfold kernelRun0_B.sl.r_8
    exact congrArg (fun z => k0_pay28 (F := Ideal) (kernelRun0_B.sl.r_5 (F := Ideal) c arg2 harg2 arg3 harg3 arg4 harg4 arg6 harg6 x0 x1 x2 xs0) (kernelRun0_B.sl.v95 c arg2 harg2 arg3 harg3 arg6 harg6 x0 x1 xs0) z) (rd_tab2 arg4 harg4 x2 inb_S768x640_S768x640_0_0)
  rw [h, B_v4 c arg2 harg2 arg3 harg3 arg6 harg6 x0 x1 xs0 hp, sum_3, B_r_5 c arg2 harg2 arg3 harg3 arg4 harg4 arg6 harg6 x0 x1 x2 xs0 hp]

theorem B_r_10 (hp : Pad0 xs0) (k : Fin 168) (q : Fin 640) : kernelRun0_B.sl.r_10 (F := Ideal) c arg2 harg2 arg3 harg3 arg4 harg4 arg6 harg6 x0 x1 x2 xs0 (ix2 k q) = sqr (row x0 x1 0) x2 k q + sqr (row x0 x1 1) x2 k q + sqr (row x0 x1 2) x2 k q + sqr (row x0 x1 3) x2 k q + sqr (row x0 x1 4) x2 k q + sqr (row x0 x1 5) x2 k q + sqr (row x0 x1 6) x2 k q := by
  have h : kernelRun0_B.sl.r_10 (F := Ideal) c arg2 harg2 arg3 harg3 arg4 harg4 arg6 harg6 x0 x1 x2 xs0 = k0_pay36 (F := Ideal) (kernelRun0_B.sl.r_8 (F := Ideal) c arg2 harg2 arg3 harg3 arg4 harg4 arg6 harg6 x0 x1 x2 xs0) (k0_pay32 (kernelRun0_B.sl.v115 c arg2 harg2 arg3 harg3 arg6 harg6 x0 x1 xs0)) x2 (kernelRun0_B.sl.v135 c arg2 harg2 arg3 harg3 arg6 harg6 x0 x1 xs0) x2 := by
    unfold kernelRun0_B.sl.r_10 kernelRun0_B.sl.r_9
    exact congrArg (fun z => k0_pay36 (F := Ideal) (kernelRun0_B.sl.r_8 (F := Ideal) c arg2 harg2 arg3 harg3 arg4 harg4 arg6 harg6 x0 x1 x2 xs0) (k0_pay32 (kernelRun0_B.sl.v115 c arg2 harg2 arg3 harg3 arg6 harg6 x0 x1 xs0)) z (kernelRun0_B.sl.v135 c arg2 harg2 arg3 harg3 arg6 harg6 x0 x1 xs0) z) (rd_tab2 arg4 harg4 x2 inb_S768x640_S768x640_0_0)
  rw [h, B_v5 c arg2 harg2 arg3 harg3 arg6 harg6 x0 x1 xs0 hp, B_v6 c arg2 harg2 arg3 harg3 arg6 harg6 x0 x1 xs0 hp, sum_4, B_r_8 c arg2 harg2 arg3 harg3 arg4 harg4 arg6 harg6 x0 x1 x2 xs0 hp]

/-- What case B leaves in the output block. -/
theorem out_B (hc0 : ¬cond0_0 i) (hc1 : ¬cond0_1 i) (hc2 : cond0_2 i) (hp : Pad0 xs0) (k : Fin 168) (q : Fin 640) :
    out0_B_3 (F := Ideal) c i arg2 harg2 arg3 harg3 arg4 harg4 arg5 harg5 arg6 harg6 hc0 hc1 hc2 x0 x1 x2 xo3 xs0 (ix3 0 k q) = xo3 (ix3 0 k q) + stepSum x0 x1 x2 k q := by
  have e2 := rd_tab2 arg4 harg4 x2 inb_S768x640_S768x640_0_0
  have e3 := rd_acc arg5 harg5 xo3 inb_S1x168x640_S1x168x640_0_0_0
  have h : out0_B_3 (F := Ideal) c i arg2 harg2 arg3 harg3 arg4 harg4 arg5 harg5 arg6 harg6 hc0 hc1 hc2 x0 x1 x2 xo3 xs0 = k0_pay5 (F := Ideal) (kernelRun0_B.sl.r_10 (F := Ideal) c arg2 harg2 arg3 harg3 arg4 harg4 arg6 harg6 x0 x1 x2 xs0) (kernelRun0_B.sl.v155 c arg2 harg2 arg3 harg3 arg6 harg6 x0 x1 xs0) x2 xo3 := by
    unfold out0_B_3
    rw [View.read_writes_eq_canon _ _ _ (cover0_B_3 c i arg2 harg2 arg3 harg3 arg4 harg4 arg5 harg5 arg6 harg6 hc0 hc1 hc2 x0 x1 x2 xo3 xs0)]
    unfold kernelRun0_B
    dsimp only
    rw [View.canon_unit_zero hz3]
    exact congrArg₂ (fun z w => k0_pay5 (F := Ideal) (kernelRun0_B.sl.r_10 (F := Ideal) c arg2 harg2 arg3 harg3 arg4 harg4 arg6 harg6 x0 x1 x2 xs0) (kernelRun0_B.sl.v155 c arg2 harg2 arg3 harg3 arg6 harg6 x0 x1 xs0) z w) e2 e3
  rw [h, B_v7 c arg2 harg2 arg3 harg3 arg6 harg6 x0 x1 xs0 hp, sum_B, B_r_10 c arg2 harg2 arg3 harg3 arg4 harg4 arg6 harg6 x0 x1 x2 xs0 hp]
  unfold stepSum
  rw [Fin.sum_univ_eight]

/-- What case B leaves in the scratch keeps its padding columns zero. -/
theorem sout_B (hc0 : ¬cond0_0 i) (hc1 : ¬cond0_1 i) (hc2 : cond0_2 i) (hp : Pad0 xs0) : Pad0 (sout0_B_0 (F := Ideal) c i arg2 harg2 arg3 harg3 arg4 harg4 arg5 harg5 arg6 harg6 hc0 hc1 hc2 x0 x1 x2 xo3 xs0) := by
  exact B_pad7 c arg2 harg2 arg3 harg3 arg6 harg6 x0 x1 xs0 hp

end Cert.KernelIdeal.Psd

end
-- ==== Proof.PsdArr.lean ====
/- The array the transform kernel leaves: per core, the sum over its sixteen steps of what a step adds. -/
module

public import proofs.«01_k».proof.Proof.PsdOut
public import Idealize.ShloMosaic.Lib.Pipeline.ValueKit

@[expose] public section

set_option maxRecDepth 16384

noncomputable section

namespace Cert.KernelIdeal.Psd

open Cert.KernelIdeal Cert.KernelIdeal.Gen
open Idealize.ShloMosaic Idealize.ShloMosaic.TcCoe
open Idealize.ShloMosaic.Pipeline (Dat)

variable (V : (c : Dev nD) → (r : Ref sig .tc) → r.ty.shape.Idx → Elt Ideal r.ty.elt)

/-- Grid point `16 i + j` of core `i`. -/
abbrev pt (i : Fin 2) (j : Fin 16) : Fin cfg0.N := ⟨16 * i.val + j.val, lt_of_lt_of_eq (by omega) N_0.symm⟩

theorem idx_0 : ∀ t : Fin cfg0.N, win0_0.index t = ![t.val, 0, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![t.val / 16, 0, 0] := (by decide +kernel : ∀ t : Fin grid0.N, _)

/-- The block of samples of a point. -/
theorem iblk_0 (c : Dev nD) (t : Fin cfg0.N) (b : Fin 8) (h w : Fin 320) (n : Fin 256) (hn : n.val = t.val * 8 + b.val) :
    iblk V c 0 t (ix3 b h w) = V c main_v28 (ix3 n h w) := by
  show V c main_v28 ((win0_0.blk t).view.emb (ix3 b h w)) = _
  refine congrArg (V c main_v28) ?_
  have e := idx_0 t
  funext a
  apply Fin.ext
  blk_simp [e]
  match a with
  | ⟨0, _⟩ => show t.val * 8 + b.val = n.val; omega
  | ⟨1, _⟩ => show 0 * 320 + h.val = h.val; omega
  | ⟨2, _⟩ => show 0 * 320 + w.val = w.val; omega

theorem iblk_1 (c : Dev nD) (t : Fin cfg0.N) : iblk V c 1 t = V c main_v27 := by
  funext y
  show V c main_v27 ((win0_1.blk t).view.emb y) = _
  refine congrArg (V c main_v27) ?_
  have e := idx_1 t
  funext a
  apply Fin.ext
  blk_simp [e]
  match a with
  | ⟨0, _⟩ => show 0 * 336 + (y 0).val = (y 0).val; omega
  | ⟨1, _⟩ => show 0 * 320 + (y 1).val = (y 1).val; omega

theorem iblk_2 (c : Dev nD) (t : Fin cfg0.N) : iblk V c 2 t = V c main_v24 := by
  funext y
  show V c main_v24 ((win0_2.blk t).view.emb y) = _
  refine congrArg (V c main_v24) ?_
  have e := idx_2 t
  funext a
  apply Fin.ext
  blk_simp [e]
  match a with
  | ⟨0, _⟩ => show 0 * 768 + (y 0).val = (y 0).val; omega
  | ⟨1, _⟩ => show 0 * 640 + (y 1).val = (y 1).val; omega

/-- What step `j` of core `i` adds. -/
def term (c : Dev nD) (i : Fin 2) (j : Fin 16) (k : Fin 168) (q : Fin 640) : EReal :=
  stepSum (iblk V c 0 (pt i j)) (V c main_v27) (V c main_v24) k q

/-- At a core's first point the block is one step's sum. -/
theorem pt_A (c : Dev nD) (t : Fin cfg0.N) (h0 : t.val % 16 = 0) :
    (∀ k q, (outsAt0 V c t.val t.isLt).1 (ix3 0 k q) = stepSum (iblk V c 0 t) (iblk V c 1 t) (iblk V c 2 t) k q)
      ∧ Pad0 (outsAt0 V c t.val t.isLt).2 := by
  have h2 : ¬ 1 ≤ t.val % 16 := by omega
  have e := outsAt0_A V c t h0 h0 h2
  refine ⟨fun k q => ?_, ?_⟩
  · have o := out_A c (grid0.coords t) (ms0_0 t) (hs0_0 t) (ms0_1 t) (hs0_1 t) (ms0_2 t) (hs0_2 t) (ms0_3 t) (hs0_3 t) scM0_0 (Memref.isWhole_whole _) (iblk V c 0 t) (iblk V c 1 t) (iblk V c 2 t) ((hcond0_0 t).mpr h0) ((hcond0_1 t).mpr h0) (fun h => h2 ((hcond0_2 t).mp h)) k q
    rw [e]
    dsimp only
    rw [o]
  · have o := sout_A c (grid0.coords t) (ms0_0 t) (hs0_0 t) (ms0_1 t) (hs0_1 t) (ms0_2 t) (hs0_2 t) (ms0_3 t) (hs0_3 t) scM0_0 (Memref.isWhole_whole _) (iblk V c 0 t) (iblk V c 1 t) (iblk V c 2 t) ((hcond0_0 t).mpr h0) ((hcond0_1 t).mpr h0) (fun h => h2 ((hcond0_2 t).mp h))
    rw [e]
    dsimp only
    exact o

/-- At a later point the step's sum is added to what the point before left. -/
theorem pt_B (c : Dev nD) (t : Fin cfg0.N) (h0 : ¬ t.val % 16 = 0)
    (hp : Pad0 (outsAt0 V c (t.val - 1) (Nat.lt_of_le_of_lt (Nat.sub_le _ _) t.isLt)).2) :
    (∀ k q, (outsAt0 V c t.val t.isLt).1 (ix3 0 k q) = (outsAt0 V c (t.val - 1) (Nat.lt_of_le_of_lt (Nat.sub_le _ _) t.isLt)).1 (ix3 0 k q) + stepSum (iblk V c 0 t) (iblk V c 1 t) (iblk V c 2 t) k q)
      ∧ Pad0 (outsAt0 V c t.val t.isLt).2 := by
  have h2 : 1 ≤ t.val % 16 := by omega
  have e := outsAt0_B V c t h0 h0 h2
  refine ⟨fun k q => ?_, ?_⟩
  · have o := out_B c (grid0.coords t) (ms0_0 t) (hs0_0 t) (ms0_1 t) (hs0_1 t) (ms0_2 t) (hs0_2 t) (ms0_3 t) (hs0_3 t) scM0_0 (Memref.isWhole_whole _) (iblk V c 0 t) (iblk V c 1 t) (iblk V c 2 t) (outsAt0 V c (t.val - 1) (Nat.lt_of_le_of_lt (Nat.sub_le _ _) t.isLt)).1 (outsAt0 V c (t.val - 1) (Nat.lt_of_le_of_lt (Nat.sub_le _ _) t.isLt)).2 (fun h => h0 ((hcond0_0 t).mp h)) (fun h => h0 ((hcond0_1 t).mp h)) ((hcond0_2 t).mpr h2) hp k q
    rw [e]
    dsimp only
    rw [o]
  · have o := sout_B c (grid0.coords t) (ms0_0 t) (hs0_0 t) (ms0_1 t) (hs0_1 t) (ms0_2 t) (hs0_2 t) (ms0_3 t) (hs0_3 t) scM0_0 (Memref.isWhole_whole _) (iblk V c 0 t) (iblk V c 1 t) (iblk V c 2 t) (outsAt0 V c (t.val - 1) (Nat.lt_of_le_of_lt (Nat.sub_le _ _) t.isLt)).1 (outsAt0 V c (t.val - 1) (Nat.lt_of_le_of_lt (Nat.sub_le _ _) t.isLt)).2 (fun h => h0 ((hcond0_0 t).mp h)) (fun h => h0 ((hcond0_1 t).mp h)) ((hcond0_2 t).mpr h2) hp
    rw [e]
    dsimp only
    exact o

/-- After point `16 i + j` the output block holds the steps so far and the scratch's padding is zero. -/
theorem sweep (c : Dev nD) (i : Fin 2) : ∀ (j : ℕ) (hj : j < 16) (h : 16 * i.val + j < cfg0.N),
    (∀ k q, (outsAt0 V c (16 * i.val + j) h).1 (ix3 0 k q) = ∑ s : Fin (j + 1), term V c i ⟨s.val, by omega⟩ k q)
      ∧ Pad0 (outsAt0 V c (16 * i.val + j) h).2 := by
  intro j
  induction j with
  | zero =>
    intro hj h
    obtain ⟨e1, e2⟩ := pt_A V c (pt i 0) (by show (16 * i.val + 0) % 16 = 0; omega)
    refine ⟨fun k q => (e1 k q).trans ?_, e2⟩
    rw [Fin.sum_univ_one, iblk_1, iblk_2]
    rfl
  | succ j ih =>
    intro hj h
    have h' : 16 * i.val + j < cfg0.N := by omega
    obtain ⟨i1, i2⟩ := ih (by omega) h'
    obtain ⟨e1, e2⟩ := pt_B V c (pt i ⟨j + 1, hj⟩) (by show ¬ (16 * i.val + (j + 1)) % 16 = 0; omega) i2
    refine ⟨fun k q => (e1 k q).trans ?_, e2⟩
    rw [Fin.sum_univ_castSucc, iblk_1, iblk_2]
    exact congrArg₂ (· + ·) (i1 k q) rfl

/-- The array of summed squares. -/
def G (c : Dev nD) : S2x168x640.Idx → EReal := fun x => ∑ j : Fin 16, term V c (x 0) j (x 1) (x 2)

theorem final (c : Dev nD) : (dat V c).arrAt 3 cfg0.N = G V c := by
  refine (dat V c).arrAt_eq_of_covers 3 _ (by decide +kernel) fun t hf y => ?_
  have hm : t.val % 16 = 15 := (flush0_3 t).mp hf
  have hN : t.val < 32 := lt_of_lt_of_eq t.isLt N_0
  blk_simp
  rw [after0_3]
  obtain ⟨i, ht⟩ : ∃ i : Fin 2, t = pt i 15 := ⟨⟨t.val / 16, by omega⟩, Fin.ext (by show t.val = 16 * (t.val / 16) + 15; omega)⟩
  subst ht
  obtain ⟨a, k, q, rfl⟩ : ∃ (a : Fin 1) (k : Fin 168) (q : Fin 640), y = ix3 a k q := ⟨y 0, y 1, y 2, eq_ix3 y⟩
  obtain rfl : a = 0 := Subsingleton.elim _ _
  have e := idx_3 (pt i 15)
  have hx : (win0_3.blk (pt i 15)).view.emb (ix3 0 k q) = ix3 i k q := by
    funext a
    apply Fin.ext
    blk_simp [e]
    match a with
    | ⟨0, _⟩ => show (16 * i.val + 15) / 16 * 1 + 0 = i.val; omega
    | ⟨1, _⟩ => show 0 * 168 + k.val = k.val; omega
    | ⟨2, _⟩ => show 0 * 640 + q.val = q.val; omega
  refine Eq.trans ?_ (congrArg (G V c) hx).symm
  exact (sweep V c i 15 (by omega) (pt i 15).isLt).1 k q

end Cert.KernelIdeal.Psd

end
-- ==== Proof.FinVal.lean ====
/- What the last kernel leaves in its first element, as the loss over the sums it is given. -/
module

public import proofs.«01_k».proof.Proof.FinBody
public import proofs.«01_k».proof.Proof.Words
public import Idealize.ShloMosaic.Lib.Pipeline.ValueKit

@[expose] public section

set_option maxRecDepth 16384

noncomputable section

namespace Cert.KernelIdeal.FinVal

open Cert.KernelIdeal Cert.KernelIdeal.Gen Cert.Spec
open Idealize.ShloMosaic Idealize.ShloMosaic.TcCoe
open Idealize.ShloMosaic.Pipeline (Dat)

/-- The kernel's quotient by four of a sample's index, rounded down. -/
def quot (a : ℕ) : BitVec 32 :=
  Scalar.select
    (IntOp.andi
      (IntOp.cmpi .ne
        (IntOp.subi (BitVec.setWidth 32 (IntOp.cmpi .sgt (BitVec.ofNat 32 a) 0#32))
          (BitVec.setWidth 32 (IntOp.cmpi .slt (BitVec.ofNat 32 a) 0#32)))
        (Scalar.subi (Scalar.extui (Scalar.cmpi .sgt 4#32 0#32)) (Scalar.extui (Scalar.cmpi .slt 4#32 0#32))))
      (IntOp.cmpi .ne (IntOp.remsi .vector (BitVec.ofNat 32 a) 4#32) 0#32))
    (IntOp.subi (IntOp.divsi .vector (BitVec.ofNat 32 a) 4#32) 1#32)
    (IntOp.divsi .vector (BitVec.ofNat 32 a) 4#32)

theorem quot_eq : ∀ a : Fin 256, quot a.val = BitVec.ofNat 32 (a.val / 4) := by
  decide +kernel

/-- The kernel's table of pairs of one group. -/
abbrev sameT : IVec S256x256 1 :=
  k2_pay6 (iota .tc S256x256 32 [0] iota_S256x256_d0_w32) (iota .tc S256x256 32 [1] iota_S256x256_d1_w32) 4#32 k2_pay4 k2_pay5

theorem same_at (a b : Fin 256) : sameT (ix2 a b) = BitVec.ofBool (decide (grp a b)) := by
  have e : sameT (ix2 a b) = IntOp.cmpi .eq (quot a.val) (quot b.val) := by
    unfold quot
    pointwise [k2_pay6, k2_pay4, k2_pay5]
  rw [e, quot_eq, quot_eq]
  exact cmpi_eq_ofBool _ _ _ (quot_inj a b)

theorem up_at (a b : Fin 256) : k2_pay3 (ix2 a b) = BitVec.ofBool (decide (a < b)) := by
  rw [← sgt_eq]
  pointwise [k2_pay3]

theorem zero_at (a b : Fin 256) : k2_pay7 (F := Ideal) (ix2 a b) = 0 := by
  pointwise [k2_pay7]

theorem pay10 (w : S168x320.Idx → EReal) : k2_pay10 (F := Ideal) w = w := by
  funext y
  pointwise [k2_pay10]

/-- Only the entry on the diagonal survives the sum. -/
theorem diag (g : Fin 256 → EReal) (a : Fin 256) :
    ∑ x : Fin 256, Scalar.select (IntOp.cmpi .eq (BitVec.ofNat 32 a.val) (BitVec.ofNat 32 x.val)) (g x) 0 = g a := by
  have e : ∀ x : Fin 256, IntOp.cmpi .eq (BitVec.ofNat 32 a.val) (BitVec.ofNat 32 x.val) = BitVec.ofBool (decide (a = x)) := by
    intro x
    refine cmpi_eq_ofBool _ _ _ ?_
    rw [← BitVec.toNat_inj, BitVec.toNat_ofNat, BitVec.toNat_ofNat, Nat.mod_eq_of_lt (by omega), Nat.mod_eq_of_lt (by omega),
      Fin.ext_iff]
  simp only [e, select_one]
  rw [Finset.sum_ite_eq, if_pos (Finset.mem_univ a)]

/-- The distances. -/
theorem pay2 (v0 v2 : S1x256x256.Idx → EReal) (v5 v7 : S1x1x256.Idx → EReal) (a b : Fin 256) :
    k2_pay2 (F := Ideal) v0 v2 v5 v7 (ix2 a b)
      = gap (fun a b => v0 (ix3 0 a b) + v2 (ix3 0 a b)) (fun a => v5 (ix3 0 0 a) + v7 (ix3 0 0 a)) a b := by
  unfold gap
  dsimp only
  rw [← diag (fun x => v0 (ix3 0 a x) + v2 (ix3 0 a x)) a, ← diag (fun x => v0 (ix3 0 b x) + v2 (ix3 0 b x)) b]
  pointwise [k2_pay2]

/-- The loss. -/
theorem pay8 (D : S256x256.Idx → EReal) :
    k2_pay8 (F := Ideal) D k2_pay3 sameT k2_pay7 = loss fun a b => D (ix2 a b) := by
  have t : ∑ a : Fin 256, ∑ b : Fin 256, Scalar.select (k2_pay3 (ix2 a b)) (k2_pay7 (F := Ideal) (ix2 a b) - D (ix2 a b)) 0
      = tot fun a b => D (ix2 a b) := by
    unfold tot
    simp only [up_at, zero_at, select_one, zero_sub]
  have p : ∀ a b : Fin 256, Scalar.select (IntOp.andi (k2_pay3 (ix2 a b)) (sameT (ix2 a b))) (-D (ix2 a b)) 0
      = pos (fun a b => D (ix2 a b)) a b := by
    intro a b
    unfold pos
    simp only [up_at, same_at, select_and]
  have e : k2_pay8 (F := Ideal) D k2_pay3 sameT k2_pay7 = ∑ x : Fin 256, (0 - Ideal.log (∑ y : Fin 256, Ideal.div
      (Scalar.select (IntOp.andi (k2_pay3 (ix2 y x)) (sameT (ix2 y x))) (0 - D (ix2 y x)) 0)
        (∑ a : Fin 256, ∑ b : Fin 256, Scalar.select (k2_pay3 (ix2 a b)) (k2_pay7 (F := Ideal) (ix2 a b) - D (ix2 a b)) 0)
      + ∑ y : Fin 256, Ideal.div
      (Scalar.select (IntOp.andi (k2_pay3 (ix2 x y)) (sameT (ix2 x y))) (0 - D (ix2 x y)) 0)
        (∑ a : Fin 256, ∑ b : Fin 256, Scalar.select (k2_pay3 (ix2 a b)) (k2_pay7 (F := Ideal) (ix2 a b) - D (ix2 a b)) 0))) := by
    generalize k2_pay3 = u, sameT = s, k2_pay7 (F := Ideal) = z
    pointwise [k2_pay8]
  rw [e]
  unfold loss
  simp only [t, p, zero_sub, ← Finset.sum_add_distrib]

/-- The spectrum. -/
def spec (v0 v2 : S1x168x640.Idx → EReal) (k : Fin 168) (l : Fin 320) : EReal :=
  (v0 (ix3 0 k ⟨l.val, by omega⟩) + v2 (ix3 0 k ⟨l.val, by omega⟩)
    + (v0 (ix3 0 k ⟨320 + l.val, by omega⟩) + v2 (ix3 0 k ⟨320 + l.val, by omega⟩))) * Ideal.ofBits .f32 0x3B800000#32

theorem pay9 (v0 v2 : S1x168x640.Idx → EReal) (k : Fin 168) (l : Fin 320) :
    k2_pay9 (F := Ideal) v0 v2 (ix2 k l) = spec v0 v2 k l := by
  unfold spec
  pointwise [k2_pay9]

theorem pay11 (v0 v2 : S1x168x640.Idx → EReal) (w : S168x320.Idx → EReal) (k : Fin 168) (l : Fin 320) :
    k2_pay11 (F := Ideal) v0 v2 w (ix2 k l) = Ideal.log (if 0 < w (ix2 k l) then spec v0 v2 k l else 1) := by
  rw [← pay9]
  generalize h : k2_pay9 (F := Ideal) v0 v2 = z
  unfold k2_pay11
  pointwise [k2_pay10, h]

theorem pay1 (L : EReal) (p w lg : S168x320.Idx → EReal) :
    k2_pay1 (F := Ideal) L p w lg (ix2 0 0)
      = fin L (∑ k : Fin 168, ∑ l : Fin 320, w (ix2 k l) * lg (ix2 k l)) (∑ k : Fin 168, ∑ l : Fin 320, w (ix2 k l) * p (ix2 k l)) := by
  unfold fin
  pointwise [k2_pay1]
  rfl

end Cert.KernelIdeal.FinVal

end
-- ==== Proof.FinArr.lean ====
/- The array the last kernel leaves, at its first element. -/
module

public import proofs.«01_k».proof.Proof.FinVal

@[expose] public section

set_option maxRecDepth 16384

noncomputable section

namespace Cert.KernelIdeal.FinVal

open Cert.KernelIdeal Cert.KernelIdeal.Gen Cert.Spec
open Idealize.ShloMosaic Idealize.ShloMosaic.TcCoe
open Idealize.ShloMosaic.Pipeline (Dat)

theorem hz2 : (![0, 0] : Fin 2 → ℕ) = fun _ => 0 := funext fun a => by fin_cases a <;> rfl

section
variable (x0 : S2x256x256.Idx → EReal) (x1 : S2x8x256.Idx → EReal) (x2 : S2x168x640.Idx → EReal) (x3 : S168x320.Idx → EReal)

theorem ld_0 (a b : Fin 256) : View.ld (Val := Elt Ideal) (e' := .f32) x0 Fin.r0_0 (ix3 0 a b) = x0 (ix3 0 a b) :=
  congrArg x0 (funext fun a => Fin.ext (by match a with | ⟨0, _⟩ => rfl | ⟨1, _⟩ => exact (Nat.zero_add _).trans (Nat.one_mul _) | ⟨2, _⟩ => exact (Nat.zero_add _).trans (Nat.one_mul _)))

theorem ld_1 (a b : Fin 256) : View.ld (Val := Elt Ideal) (e' := .f32) x0 Fin.r0_1 (ix3 0 a b) = x0 (ix3 1 a b) :=
  congrArg x0 (funext fun a => Fin.ext (by match a with | ⟨0, _⟩ => rfl | ⟨1, _⟩ => exact (Nat.zero_add _).trans (Nat.one_mul _) | ⟨2, _⟩ => exact (Nat.zero_add _).trans (Nat.one_mul _)))

theorem ld_2 (a : Fin 256) : View.ld (Val := Elt Ideal) (e' := .f32) x1 Fin.r0_2 (ix3 0 0 a) = x1 (ix3 0 0 a) :=
  congrArg x1 (funext fun a => Fin.ext (by match a with | ⟨0, _⟩ => rfl | ⟨1, _⟩ => rfl | ⟨2, _⟩ => exact (Nat.zero_add _).trans (Nat.one_mul _)))

theorem ld_3 (a : Fin 256) : View.ld (Val := Elt Ideal) (e' := .f32) x1 Fin.r0_3 (ix3 0 0 a) = x1 (ix3 1 0 a) :=
  congrArg x1 (funext fun a => Fin.ext (by match a with | ⟨0, _⟩ => rfl | ⟨1, _⟩ => rfl | ⟨2, _⟩ => exact (Nat.zero_add _).trans (Nat.one_mul _)))

theorem ld_4 (k : Fin 168) (q : Fin 640) : View.ld (Val := Elt Ideal) (e' := .f32) x2 Fin.r0_4 (ix3 0 k q) = x2 (ix3 0 k q) :=
  congrArg x2 (funext fun a => Fin.ext (by match a with | ⟨0, _⟩ => rfl | ⟨1, _⟩ => exact (Nat.zero_add _).trans (Nat.one_mul _) | ⟨2, _⟩ => exact (Nat.zero_add _).trans (Nat.one_mul _)))

theorem ld_5 (k : Fin 168) (q : Fin 640) : View.ld (Val := Elt Ideal) (e' := .f32) x2 Fin.r0_5 (ix3 0 k q) = x2 (ix3 1 k q) :=
  congrArg x2 (funext fun a => Fin.ext (by match a with | ⟨0, _⟩ => rfl | ⟨1, _⟩ => exact (Nat.zero_add _).trans (Nat.one_mul _) | ⟨2, _⟩ => exact (Nat.zero_add _).trans (Nat.one_mul _)))

theorem ld_6 : View.ld (Val := Elt Ideal) (e' := .f32) x3 Fin.r0_6 = x3 :=
  View.ld_unit_zero (Val := Elt Ideal) (e := .f32) (S := S168x320) hz2 inb_S168x320_S168x320_0_0 x3

/-- The spectrum of the two cores' sums. -/
def spc (k : Fin 168) (l : Fin 320) : EReal :=
  (x2 (ix3 0 k ⟨l.val, by omega⟩) + x2 (ix3 1 k ⟨l.val, by omega⟩)
    + (x2 (ix3 0 k ⟨320 + l.val, by omega⟩) + x2 (ix3 1 k ⟨320 + l.val, by omega⟩))) * Ideal.ofBits .f32 0x3B800000#32

/-- The first element from the four inputs. -/
def value : EReal :=
  fin (loss (gap (fun a b => x0 (ix3 0 a b) + x0 (ix3 1 a b)) (fun a => x1 (ix3 0 0 a) + x1 (ix3 1 0 a))))
    (∑ k : Fin 168, ∑ l : Fin 320, x3 (ix2 k l) * Ideal.log (if 0 < x3 (ix2 k l) then spc x2 k l else 1))
    (∑ k : Fin 168, ∑ l : Fin 320, x3 (ix2 k l) * spc x2 k l)

/-- The payloads' first element, whatever the loads are written as. -/
theorem value_of (u0 u1 : S1x256x256.Idx → EReal) (v0 v1 : S1x1x256.Idx → EReal) (p0 p1 : S1x168x640.Idx → EReal)
    (w : S168x320.Idx → EReal) (hu0 : ∀ a b, u0 (ix3 0 a b) = x0 (ix3 0 a b)) (hu1 : ∀ a b, u1 (ix3 0 a b) = x0 (ix3 1 a b))
    (hv0 : ∀ a, v0 (ix3 0 0 a) = x1 (ix3 0 0 a)) (hv1 : ∀ a, v1 (ix3 0 0 a) = x1 (ix3 1 0 a))
    (hp0 : ∀ k q, p0 (ix3 0 k q) = x2 (ix3 0 k q)) (hp1 : ∀ k q, p1 (ix3 0 k q) = x2 (ix3 1 k q)) (hw : w = x3) :
    k2_pay1 (F := Ideal) (k2_pay8 (k2_pay2 u0 u1 v0 v1) k2_pay3 sameT k2_pay7) (k2_pay9 p0 p1) (k2_pay10 w) (k2_pay11 p0 p1 w) (ix2 0 0)
      = value x0 x1 x2 x3 := by
  subst hw
  rw [pay1, pay8]
  unfold value
  simp only [pay10, pay11, pay9, pay2, spec, hu0, hu1, hv0, hv1, hp0, hp1, spc]

theorem out_eq : Fin.out0_4 (F := Ideal) x0 x1 x2 x3 (ix2 0 0) = value x0 x1 x2 x3 := by
  unfold Fin.out0_4
  rw [View.canon_unit_zero (S := S8x128) hz2]
  exact value_of x0 x1 x2 x3 _ _ _ _ _ _ _ (ld_0 x0) (ld_1 x0) (ld_2 x1) (ld_3 x1) (ld_4 x2) (ld_5 x2) (ld_6 x3)

end

variable (V : (c : Dev nD) → (r : Ref sig .tc) → r.ty.shape.Idx → Elt Ideal r.ty.elt)

theorem idx_0 : ∀ t : Fin cfg2.N, win2_0.index t = ![0, 0, 0] := (by decide +kernel : ∀ t : Fin grid2.N, _)
theorem idx_1 : ∀ t : Fin cfg2.N, win2_1.index t = ![0, 0, 0] := (by decide +kernel : ∀ t : Fin grid2.N, _)
theorem idx_2 : ∀ t : Fin cfg2.N, win2_2.index t = ![0, 0, 0] := (by decide +kernel : ∀ t : Fin grid2.N, _)
theorem idx_3 : ∀ t : Fin cfg2.N, win2_3.index t = ![0, 0] := (by decide +kernel : ∀ t : Fin grid2.N, _)
theorem idx_4 : ∀ t : Fin cfg2.N, win2_4.index t = ![0, 0] := (by decide +kernel : ∀ t : Fin grid2.N, _)

theorem iblk_0 (c : Dev nD) (t : Fin cfg2.N) : Fin.iblk V c 0 t = V c main_v30_0 := by
  funext y
  show V c main_v30_0 ((win2_0.blk t).view.emb y) = _
  refine congrArg (V c main_v30_0) ?_
  have e := idx_0 t
  funext a
  apply Fin.ext
  blk_simp [e]
  match a with
  | ⟨0, _⟩ => show 0 * 2 + (y 0).val = (y 0).val; omega
  | ⟨1, _⟩ => show 0 * 256 + (y 1).val = (y 1).val; omega
  | ⟨2, _⟩ => show 0 * 256 + (y 2).val = (y 2).val; omega

theorem iblk_1 (c : Dev nD) (t : Fin cfg2.N) : Fin.iblk V c 1 t = V c main_v30_1 := by
  funext y
  show V c main_v30_1 ((win2_1.blk t).view.emb y) = _
  refine congrArg (V c main_v30_1) ?_
  have e := idx_1 t
  funext a
  apply Fin.ext
  blk_simp [e]
  match a with
  | ⟨0, _⟩ => show 0 * 2 + (y 0).val = (y 0).val; omega
  | ⟨1, _⟩ => show 0 * 8 + (y 1).val = (y 1).val; omega
  | ⟨2, _⟩ => show 0 * 256 + (y 2).val = (y 2).val; omega

theorem iblk_2 (c : Dev nD) (t : Fin cfg2.N) : Fin.iblk V c 2 t = V c main_v29 := by
  funext y
  show V c main_v29 ((win2_2.blk t).view.emb y) = _
  refine congrArg (V c main_v29) ?_
  have e := idx_2 t
  funext a
  apply Fin.ext
  blk_simp [e]
  match a with
  | ⟨0, _⟩ => show 0 * 2 + (y 0).val = (y 0).val; omega
  | ⟨1, _⟩ => show 0 * 168 + (y 1).val = (y 1).val; omega
  | ⟨2, _⟩ => show 0 * 640 + (y 2).val = (y 2).val; omega

theorem iblk_3 (c : Dev nD) (t : Fin cfg2.N) : Fin.iblk V c 3 t = V c main_v26 := by
  funext y
  show V c main_v26 ((win2_3.blk t).view.emb y) = _
  refine congrArg (V c main_v26) ?_
  have e := idx_3 t
  funext a
  apply Fin.ext
  blk_simp [e]
  match a with
  | ⟨0, _⟩ => show 0 * 168 + (y 0).val = (y 0).val; omega
  | ⟨1, _⟩ => show 0 * 320 + (y 1).val = (y 1).val; omega

/-- The last array is what the body leaves at its one point. -/
theorem final (c : Dev nD) : (Fin.dat V c).arrAt 4 cfg2.N
    = Fin.out0_4 (F := Ideal) (V c main_v30_0) (V c main_v30_1) (V c main_v29) (V c main_v26) := by
  refine (Fin.dat V c).arrAt_eq_of_covers 4 _ (by decide +kernel) fun t hf y => ?_
  blk_simp
  rw [Fin.after0_4, iblk_0, iblk_1, iblk_2, iblk_3]
  have e := idx_4 t
  have hx : (win2_4.blk t).view.emb y = y := by
    funext a
    apply Fin.ext
    blk_simp [e]
    match a with
    | ⟨0, _⟩ => show 0 * 8 + (y 0).val = (y 0).val; omega
    | ⟨1, _⟩ => show 0 * 128 + (y 1).val = (y 1).val; omega
  exact (congrArg (Fin.out0_4 (F := Ideal) (V c main_v30_0) (V c main_v30_1) (V c main_v29) (V c main_v26)) hx).symm

end Cert.KernelIdeal.FinVal

end
-- ==== Proof.PsdVal.lean ====
/- The transform kernel's result, over the cores: the mean square modulus of the transform, on the rows kept. -/
module

public import proofs.«01_k».proof.Proof.PsdArr
public import proofs.«01_k».proof.Proof.FinArr
public import proofs.«01_k».proof.Proof.Spec
public import proofs.«01_k».proof.Proof.Sums
public import proofs.«01_k».proof.Proof.Words

@[expose] public section

set_option maxRecDepth 16384

noncomputable section

namespace Cert.KernelIdeal.Psd

open Cert.KernelIdeal Cert.KernelIdeal.Gen Cert.Spec
open Idealize.ShloMosaic Idealize.ShloMosaic.TcCoe

section rows

variable (a b : S1x168x320.Idx → EReal) (k : Fin 168)

theorem rowOf_lo (w : Fin 320) : rowOf a b k ⟨w.val, by omega⟩ = a (ix3 0 k w) := by
  unfold rowOf
  rw [dif_pos w.isLt]

theorem rowOf_hi (w : Fin 320) : rowOf a b k ⟨384 + w.val, by omega⟩ = b (ix3 0 k w) := by
  unfold rowOf
  rw [dif_neg (by dsimp only; omega), if_neg (by dsimp only; omega), dif_pos (by dsimp only; omega)]
  refine congrArg (fun z => b (ix3 0 k z)) (Fin.ext ?_)
  dsimp only
  omega

theorem rowOf_gap (p : Fin 768) (hp : (320 ≤ p.val ∧ p.val < 384) ∨ 704 ≤ p.val) : rowOf a b k p = 0 := by
  unfold rowOf
  rcases hp with ⟨h, h'⟩ | h
  · rw [dif_neg (by omega), if_pos h']
  · rw [dif_neg (by omega), if_neg (by omega), dif_neg (by omega)]

/-- The product of a scratch row with a table's column. -/
theorem row_sum (t : Fin 768 → EReal) :
    ∑ p : Fin 768, rowOf a b k p * t p
      = ∑ w : Fin 320, a (ix3 0 k w) * t ⟨w.val, by omega⟩ + ∑ w : Fin 320, b (ix3 0 k w) * t ⟨384 + w.val, by omega⟩ := by
  rw [sum_gaps (fun p => rowOf a b k p * t p) fun p hp => by rw [rowOf_gap a b k p hp, zero_mul]]
  refine congrArg₂ (· + ·) ?_ ?_
  · exact Finset.sum_congr rfl fun w _ => congrArg (· * _) (rowOf_lo a b k w)
  · exact Finset.sum_congr rfl fun w _ => congrArg (· * _) (rowOf_hi a b k w)

end rows

/-- What the transform reads: the samples and the two tables. -/
structure Reads (V : (c : Dev nD) → (r : Ref sig .tc) → r.ty.shape.Idx → Elt Ideal r.ty.elt) (c : Dev nD) (x : Samples) : Prop where
  smp : ∀ n h w, V c main_v28 (ix3 n h w) = x n h w
  cos : ∀ (k : Fin 168) (h : Fin 320), k.val < 161 → V c main_v27 (ix2 ⟨k.val, by omega⟩ h) = cT k.val h.val
  sin : ∀ (k : Fin 168) (h : Fin 320), k.val < 161 → V c main_v27 (ix2 ⟨168 + k.val, by omega⟩ h) = sT k.val h.val
  cc : ∀ w l : Fin 320, V c main_v24 (ix2 ⟨w.val, by omega⟩ ⟨l.val, by omega⟩) = cT w.val l.val
  cs : ∀ w l : Fin 320, V c main_v24 (ix2 ⟨w.val, by omega⟩ ⟨320 + l.val, by omega⟩) = sT w.val l.val
  sc : ∀ w l : Fin 320, V c main_v24 (ix2 ⟨384 + w.val, by omega⟩ ⟨l.val, by omega⟩) = -sT w.val l.val
  ss : ∀ w l : Fin 320, V c main_v24 (ix2 ⟨384 + w.val, by omega⟩ ⟨320 + l.val, by omega⟩) = cT w.val l.val

variable (V : (c : Dev nD) → (r : Ref sig .tc) → r.ty.shape.Idx → Elt Ideal r.ty.elt) (c : Dev nD) (x : Samples) (R : Reads V c x)

/-- The sample of place `b` of step `j` of core `i`. -/
def num (i : Fin 2) (j : Fin 16) (b : Fin 8) : Fin 256 := ⟨(16 * i.val + j.val) * 8 + b.val, by omega⟩

/-- A row transform, from what its factors are. -/
theorem dft_of (x1 : S336x320.Idx → EReal) (y : S1x320x320.Idx → EReal) (r : Fin 336) (w : Fin 320) (t f : Fin 320 → EReal)
    (h1 : ∀ h, x1 (ix2 r h) = t h) (h2 : ∀ h, y (ix3 0 h w) = f h) : dft x1 y r w = ∑ h : Fin 320, f h * t h := by
  unfold dft
  exact Finset.sum_congr rfl fun h _ => by rw [h1, h2, mul_comm]

/-- A core's sum, over its steps and their places. -/
theorem G_at (i : Fin 2) (k : Fin 168) (q : Fin 640) :
    G V c (ix3 i k q) = ∑ j : Fin 16, ∑ b : Fin 8, sqr (row (iblk V c 0 (pt i j)) (V c main_v27) b) (V c main_v24) k q := rfl

include R

theorem lo_eq (i : Fin 2) (j : Fin 16) (b : Fin 8) (k : Fin 168) (hk : k.val < 161) (w : Fin 320) :
    lo (V c main_v27) (smp (iblk V c 0 (pt i j)) b) (ix3 0 k w) = ra x (num i j b) k.val w := by
  exact dft_of _ _ _ w _ _ (fun h => R.cos k h hk) fun h => (iblk_0 V c (pt i j) b h w (num i j b) rfl).trans (R.smp _ _ _)

theorem hi_eq (i : Fin 2) (j : Fin 16) (b : Fin 8) (k : Fin 168) (hk : k.val < 161) (w : Fin 320) :
    hi (V c main_v27) (smp (iblk V c 0 (pt i j)) b) (ix3 0 k w) = rb x (num i j b) k.val w := by
  exact dft_of _ _ _ w _ _ (fun h => R.sin k h hk) fun h => (iblk_0 V c (pt i j) b h w (num i j b) rfl).trans (R.smp _ _ _)

theorem sqr_re (i : Fin 2) (j : Fin 16) (b : Fin 8) (k : Fin 168) (hk : k.val < 161) (l : Fin 320) :
    sqr (row (iblk V c 0 (pt i j)) (V c main_v27) b) (V c main_v24) k ⟨l.val, by omega⟩
      = re x (num i j b) k.val l.val * re x (num i j b) k.val l.val := by
  have e := row_sum (lo (V c main_v27) (smp (iblk V c 0 (pt i j)) b)) (hi (V c main_v27) (smp (iblk V c 0 (pt i j)) b)) k
    fun p => V c main_v24 (ix2 p ⟨l.val, by omega⟩)
  have e' : (∑ p : Fin 768, row (iblk V c 0 (pt i j)) (V c main_v27) b (ix3 0 k p) * V c main_v24 (ix2 p ⟨l.val, by omega⟩))
      = ∑ w : Fin 320, ra x (num i j b) k.val w * cT w.val l.val + ∑ w : Fin 320, rb x (num i j b) k.val w * -sT w.val l.val := by
    refine e.trans (congrArg₂ (· + ·) ?_ ?_)
    · exact Finset.sum_congr rfl fun w _ => congrArg₂ (· * ·) (lo_eq V c x R i j b k hk w) (R.cc w l)
    · exact Finset.sum_congr rfl fun w _ => congrArg₂ (· * ·) (hi_eq V c x R i j b k hk w) (R.sc w l)
  refine (congrArg₂ (· * ·) e' e').trans (Rel.sq (re_rel x _ _ _))

theorem sqr_im (i : Fin 2) (j : Fin 16) (b : Fin 8) (k : Fin 168) (hk : k.val < 161) (l : Fin 320) :
    sqr (row (iblk V c 0 (pt i j)) (V c main_v27) b) (V c main_v24) k ⟨320 + l.val, by omega⟩
      = im x (num i j b) k.val l.val * im x (num i j b) k.val l.val := by
  have e := row_sum (lo (V c main_v27) (smp (iblk V c 0 (pt i j)) b)) (hi (V c main_v27) (smp (iblk V c 0 (pt i j)) b)) k
    fun p => V c main_v24 (ix2 p ⟨320 + l.val, by omega⟩)
  have e' : (∑ p : Fin 768, row (iblk V c 0 (pt i j)) (V c main_v27) b (ix3 0 k p) * V c main_v24 (ix2 p ⟨320 + l.val, by omega⟩))
      = im x (num i j b) k.val l.val := by
    refine e.trans (congrArg₂ (· + ·) ?_ ?_)
    · exact Finset.sum_congr rfl fun w _ => congrArg₂ (· * ·) (lo_eq V c x R i j b k hk w) (R.cs w l)
    · exact Finset.sum_congr rfl fun w _ => congrArg₂ (· * ·) (hi_eq V c x R i j b k hk w) (R.ss w l)
  exact congrArg₂ (· * ·) e' e'

omit R in
/-- A sum over the samples, cut into cores, steps and places of a step. -/
theorem sum_num (f : Fin 256 → EReal) :
    (∑ j : Fin 16, ∑ b : Fin 8, f (num 0 j b)) + (∑ j : Fin 16, ∑ b : Fin 8, f (num 1 j b)) = ∑ n : Fin 256, f n := by
  rw [sum_cut (A := 32) (B := 8) (by decide) (fun a d => ⟨8 * a.val + d.val, by omega⟩) (fun _ _ => rfl) f,
    sum_cut (A := 2) (B := 16) (N := 32) (by decide) (fun i j => ⟨16 * i.val + j.val, by omega⟩) (fun _ _ => rfl), Fin.sum_univ_two]
  refine congrArg₂ (· + ·) ?_ ?_ <;>
    exact Finset.sum_congr rfl fun j _ => Finset.sum_congr rfl fun d _ => congrArg f (Fin.ext (by unfold num; dsimp only; omega))

theorem G_re (k : Fin 168) (hk : k.val < 161) (l : Fin 320) :
    G V c (ix3 0 k ⟨l.val, by omega⟩) + G V c (ix3 1 k ⟨l.val, by omega⟩)
      = ∑ n : Fin 256, re x n k.val l.val * re x n k.val l.val := by
  rw [G_at, G_at]
  refine Eq.trans ?_ (sum_num fun n => re x n k.val l.val * re x n k.val l.val)
  refine congrArg₂ (· + ·) ?_ ?_ <;>
    exact Finset.sum_congr rfl fun j _ => Finset.sum_congr rfl fun b _ => sqr_re V c x R _ j b k hk l

theorem G_im (k : Fin 168) (hk : k.val < 161) (l : Fin 320) :
    G V c (ix3 0 k ⟨320 + l.val, by omega⟩) + G V c (ix3 1 k ⟨320 + l.val, by omega⟩)
      = ∑ n : Fin 256, im x n k.val l.val * im x n k.val l.val := by
  rw [G_at, G_at]
  refine Eq.trans ?_ (sum_num fun n => im x n k.val l.val * im x n k.val l.val)
  refine congrArg₂ (· + ·) ?_ ?_ <;>
    exact Finset.sum_congr rfl fun j _ => Finset.sum_congr rfl fun b _ => sqr_im V c x R _ j b k hk l

/-- The mean the last kernel forms of the two cores' sums. -/
theorem spc_eq (k : Fin 168) (hk : k.val < 161) (l : Fin 320) : FinVal.spc (G V c) k l = psd x k.val l.val := by
  have e : FinVal.spc (G V c) k l = ((G V c (ix3 0 k ⟨l.val, by omega⟩) + G V c (ix3 1 k ⟨l.val, by omega⟩))
      + (G V c (ix3 0 k ⟨320 + l.val, by omega⟩) + G V c (ix3 1 k ⟨320 + l.val, by omega⟩))) * Ideal.ofBits .f32 0x3B800000#32 := rfl
  rw [e, G_re V c x R k hk l, G_im V c x R k hk l, ← Finset.sum_add_distrib]
  unfold psd
  rw [ofBits_256, ofBits_inv_256, Ideal.div_coe (by norm_num)]

end Cert.KernelIdeal.Psd
-- ==== Proof.Chain.lean ====
/- The kernel's result through its three calls: what each reads is what the one before it left. -/
module

public import proofs.«01_k».proof.Proof.Whole
public import proofs.«01_k».proof.Proof.Tables
public import proofs.«01_k».proof.Proof.GramVal
public import proofs.«01_k».proof.Proof.PsdVal
public import proofs.«01_k».proof.Proof.FinArr
public import Idealize.ShloMosaic.Lib.StableHlo.ReadAt

@[expose] public section

set_option maxRecDepth 16384

noncomputable section

namespace Cert.KernelIdeal.Chain

open Cert.KernelIdeal Cert.KernelIdeal.Gen Cert.KernelIdeal.Whole Cert.Spec
open Idealize.ShloMosaic Idealize.ShloMosaic.TcCoe

variable (m : (ℓ : Loc nD τ sig) → Buf (Elt Ideal) ℓ) (c : Dev nD)

/-- The argument, as samples. -/
def smps : Samples := fun n h w => m ((c : Thread nD τ).loc main_arg0) (ix3 n h w)

theorem keep2 (r : Ref sig .tc) (h : ∀ w, Pipeline.arrRef cfg0.spec w = r → (cfg0.win w).isOut = false) :
    W2 (F := Ideal) m c r = W1 m c r :=
  Pipeline.afterRegion_keeps _ _ winFacts0.arr_inj (fun w => Psd.A_eq (tcOf (W1 m)) c w) r h

theorem keep3 (r : Ref sig .tc) (h : ∀ w, Pipeline.arrRef cfg1.spec w = r → (cfg1.win w).isOut = false) :
    W3 (F := Ideal) m c r = W2 m c r :=
  Pipeline.afterRegion_keeps _ _ winFacts1.arr_inj (fun w => Gram.A_eq (tcOf (W2 m)) c w) r h

/-- The transform kernel's sums. -/
theorem v29_eq : W2 (F := Ideal) m c main_v29 = Psd.G (tcOf (W1 m)) c :=
  (Pipeline.afterRegion_arr (Psd.dat (F := Ideal) (tcOf (W1 m)) c) (W1 m c) winFacts0.arr_inj 3).trans (Psd.final (tcOf (W1 m)) c)

/-- The inner products. -/
theorem v30_0_eq : W3 (F := Ideal) m c main_v30_0 = Gram.G (tcOf (W2 m)) c :=
  (Pipeline.afterRegion_arr (Gram.dat (F := Ideal) (tcOf (W2 m)) c) (W2 m c) winFacts1.arr_inj 1).trans (Gram.final_1 (tcOf (W2 m)) c)

/-- The sums of the samples. -/
theorem v30_1_eq (i : Fin 2) (b : Fin 256) :
    W3 (F := Ideal) m c main_v30_1 (ix3 i 0 b) = ∑ j : Fin 4, Gram.sterm (tcOf (W2 m)) c i j b :=
  (congrFun (Pipeline.afterRegion_arr (Gram.dat (F := Ideal) (tcOf (W2 m)) c) (W2 m c) winFacts1.arr_inj 2) _).trans
    (Gram.final_2 (tcOf (W2 m)) c i b)

/-- The last kernel's block. -/
theorem v31_eq : W4 (F := Ideal) m c main_v31
    = Fin.out0_4 (F := Ideal) (W3 m c main_v30_0) (W3 m c main_v30_1) (W3 m c main_v29) (W3 m c main_v26) :=
  (Pipeline.afterRegion_arr (Fin.dat (F := Ideal) (tcOf (W3 m)) c) (W3 m c) winFacts2.arr_inj 4).trans (FinVal.final (tcOf (W3 m)) c)

/-- The result is the block's first element. -/
theorem v34_at : W5 (F := Ideal) m c main_v34 ix0 = W4 m c main_v31 (ix2 0 0) := by
  unfold W5
  after_reads_at

theorem v28_at (n : Fin 256) (h w : Fin 320) : tcOf (W2 (F := Ideal) m) c main_v28 (ix3 n h w) = smps m c n h w :=
  (congrFun (keep2 m c main_v28 (by decide)) _).trans (Tables.v28_at m c n h w)

/-- The tables and the samples, as the transform kernel reads them. -/
theorem reads : Psd.Reads (tcOf (W1 (F := Ideal) m)) c (smps m c) where
  smp := Tables.v28_at m c
  cos k h hk := Tables.v27_lo m c k h hk
  sin k h hk := Tables.v27_hi m c k h hk
  cc := Tables.v24_cc m c
  cs := Tables.v24_cs m c
  sc := Tables.v24_sc m c
  ss := Tables.v24_ss m c

/-- The last kernel's value, from what it reads. -/
theorem value_eq (x : Samples) (x0 : S2x256x256.Idx → EReal) (x1 : S2x8x256.Idx → EReal) (x2 : S2x168x640.Idx → EReal) (x3 : S168x320.Idx → EReal)
    (h0 : ∀ a b, x0 (ix3 0 a b) + x0 (ix3 1 a b) = gram x a b) (h1 : ∀ a, x1 (ix3 0 0 a) + x1 (ix3 1 0 a) = tally x a)
    (h2 : ∀ (k : Fin 168) (l : Fin 320), k.val < 161 → FinVal.spc x2 k l = psd x k.val l.val)
    (h3 : ∀ (k : Fin 168) (l : Fin 320), x3 (ix2 k l) = wt k.val) : FinVal.value x0 x1 x2 x3 = out x := by
  have e0 : (fun a b => x0 (ix3 0 a b) + x0 (ix3 1 a b)) = gram x := funext fun a => funext fun b => h0 a b
  have e1 : (fun a => x1 (ix3 0 0 a) + x1 (ix3 1 0 a)) = tally x := funext h1
  have z : ∀ k : Fin 168, ¬ k.val < 161 → wt k.val = 0 := fun k hk => by
    unfold wt
    rw [if_neg (by omega), if_neg (by omega)]
  have p : ∀ k : Fin 168, k.val < 161 → 0 < wt k.val := fun k hk => by
    unfold wt
    split
    · exact zero_lt_one
    · rw [if_pos (by omega)]
      exact lt_of_lt_of_le zero_lt_one (le_add_of_nonneg_right zero_le_one)
  have el : (∑ k : Fin 168, ∑ l : Fin 320, x3 (ix2 k l) * Ideal.log (if 0 < x3 (ix2 k l) then FinVal.spc x2 k l else 1))
      = ∑ k : Fin 320, ∑ l : Fin 320, Ideal.log (psd x k.val l.val) := by
    refine Eq.trans ?_ (sum_wt x Ideal.log)
    refine Finset.sum_congr rfl fun k _ => Finset.sum_congr rfl fun l _ => ?_
    rw [h3]
    by_cases hk : k.val < 161
    · rw [if_pos (p k hk), h2 k l hk]
    · rw [z k hk, zero_mul, zero_mul]
  have ep : (∑ k : Fin 168, ∑ l : Fin 320, x3 (ix2 k l) * FinVal.spc x2 k l) = ∑ k : Fin 320, ∑ l : Fin 320, psd x k.val l.val := by
    refine Eq.trans ?_ (sum_wt x id)
    refine Finset.sum_congr rfl fun k _ => Finset.sum_congr rfl fun l _ => ?_
    rw [h3]
    by_cases hk : k.val < 161
    · rw [h2 k l hk, id]
    · rw [z k hk, zero_mul, zero_mul]
  unfold FinVal.value out
  rw [e0, e1, el, ep]

/-- The kernel's result is the specification's value of its argument. -/
theorem result_at : W5 (F := Ideal) m c main_v34 ix0 = out (smps m c) := by
  rw [v34_at, v31_eq]
  refine (FinVal.out_eq _ _ _ _).trans (value_eq (smps m c) _ _ _ _ (fun a b => ?_) (fun a => ?_) (fun k l hk => ?_) (fun k l => ?_))
  · rw [v30_0_eq]
    exact Gram.gram_eq (tcOf (W2 m)) c (smps m c) (v28_at m c) a b
  · rw [v30_1_eq, v30_1_eq]
    exact Gram.tally_eq (tcOf (W2 m)) c (smps m c) (v28_at m c) a
  · rw [keep3 m c main_v29 (by decide), v29_eq]
    exact Psd.spc_eq (tcOf (W1 m)) c (smps m c) (reads m c) k hk l
  · rw [keep3 m c main_v26 (by decide), keep2 m c main_v26 (by decide)]
    exact Tables.v26_at m c k l

end Cert.KernelIdeal.Chain
-- ==== Proof.RefStage.lean ====
/- The reference's result in stages: each stage is the reference's own term over the argument. -/
module

public import proofs.«01_k».proof.Proof.Gen.ReferenceIdeal.Run
public import Idealize.ShloMosaic.Lib.Pointwise

@[expose] public section

set_option maxRecDepth 65536

noncomputable section

namespace Cert.ReferenceIdeal.Value

open Cert.ReferenceIdeal Cert.ReferenceIdeal.Gen
open Idealize.ShloMosaic Idealize.ShloMosaic.TcCoe Idealize.ShloMosaic.StableHlo

/-- The samples laid out flat. -/
def rX (X : FVec Ideal S256x320x320 .f32) : FVec Ideal S256x102400 .f32 :=
  shapeCast S256x102400 X shapeCasts_S256x320x320_S256x102400

/-- The distances. -/
def rDist (X : FVec Ideal S256x320x320 .f32) : FVec Ideal S256x256 .f32 :=
  Host.sqrt (maximumf (addf (addf (subf (addf (broadcastInDim S256x256 ![0, 1] bcast_S256x1_S256x256_0_1 (broadcastInDim S256x1 ![0] bcast_S256_S256x1_0 (Host.reduceAdd (mulf (rX X) (rX X)) (constant S_ .f32 0x00000000#32) reducesTo_S256x102400_S256_d1 h_S_))) (broadcastInDim S256x256 ![0, 1] bcast_S1x256_S256x256_0_1 (broadcastInDim S1x256 ![1] bcast_S256_S1x256_1 (Host.reduceAdd (mulf (rX X) (rX X)) (constant S_ .f32 0x00000000#32) reducesTo_S256x102400_S256_d1 h_S_)))) (mulf (broadcastInDim S256x256 ![] bcast_S_S256x256 (constant S_ .f32 0x40000000#32)) (Host.dotGeneral dot_S256x102400_S102400x256_S256x256_1_0_0_1_n_n none (rX X) (transpose S102400x256 [1, 0] (rX X) transposes_S256x102400_S102400x256_1_0)))) (mulf (broadcastInDim S256x256 ![] bcast_S_S256x256 (constant S_ .f32 0x360637BD#32)) (subf (broadcastInDim S256x256 ![0, 1] bcast_S256x1_S256x256_0_1 (broadcastInDim S256x1 ![0] bcast_S256_S256x1_0 (Host.reduceAdd (rX X) (constant S_ .f32 0x00000000#32) reducesTo_S256x102400_S256_d1 h_S_))) (broadcastInDim S256x256 ![0, 1] bcast_S1x256_S256x256_0_1 (broadcastInDim S1x256 ![1] bcast_S256_S1x256_1 (Host.reduceAdd (rX X) (constant S_ .f32 0x00000000#32) reducesTo_S256x102400_S256_d1 h_S_)))))) (broadcastInDim S256x256 ![] bcast_S_S256x256 (constant S_ .f32 0x33DBE6FF#32))) (broadcastInDim S256x256 ![] bcast_S_S256x256 (constant S_ .f32 0x00000000#32)))

/-- Whether the column is past the row. -/
def rUp : IVec S256x256 1 :=
  cmpi .sgt (broadcastInDim S256x256 ![0, 1] bcast_S1x256_S256x256_0_1 (broadcastInDim S1x256 ![1] bcast_S256_S1x256_1 (iotaInDim S256 32 0))) (broadcastInDim S256x256 ![0, 1] bcast_S256x1_S256x256_0_1 (broadcastInDim S256x1 ![0] bcast_S256_S256x1_0 (iotaInDim S256 32 0)))

/-- Whether row and column are of one group. -/
def rSame : IVec S256x256 1 :=
  cmpi .eq (broadcastInDim S256x256 ![0, 1] bcast_S256x1_S256x256_0_1 (select (andi (cmpi .ne (signi (broadcastInDim S256x1 ![0] bcast_S256_S256x1_0 (iotaInDim S256 32 0))) (broadcastInDim S256x1 ![] bcast_S_S256x1 (signi (id (constantI S_ 32 4#32))))) (cmpi .ne (Host.remsi (broadcastInDim S256x1 ![0] bcast_S256_S256x1_0 (iotaInDim S256 32 0)) (broadcastInDim S256x1 ![] bcast_S_S256x1 (id (constantI S_ 32 4#32)))) (broadcastInDim S256x1 ![] bcast_S_S256x1 (constantI S_ 32 0#32)))) (subi (Host.divsi (broadcastInDim S256x1 ![0] bcast_S256_S256x1_0 (iotaInDim S256 32 0)) (broadcastInDim S256x1 ![] bcast_S_S256x1 (id (constantI S_ 32 4#32)))) (broadcastInDim S256x1 ![] bcast_S_S256x1 (constantI S_ 32 1#32))) (Host.divsi (broadcastInDim S256x1 ![0] bcast_S256_S256x1_0 (iotaInDim S256 32 0)) (broadcastInDim S256x1 ![] bcast_S_S256x1 (id (constantI S_ 32 4#32)))))) (broadcastInDim S256x256 ![0, 1] bcast_S1x256_S256x256_0_1 (select (andi (cmpi .ne (signi (broadcastInDim S1x256 ![1] bcast_S256_S1x256_1 (iotaInDim S256 32 0))) (broadcastInDim S1x256 ![] bcast_S_S1x256 (signi (id (constantI S_ 32 4#32))))) (cmpi .ne (Host.remsi (broadcastInDim S1x256 ![1] bcast_S256_S1x256_1 (iotaInDim S256 32 0)) (broadcastInDim S1x256 ![] bcast_S_S1x256 (id (constantI S_ 32 4#32)))) (broadcastInDim S1x256 ![] bcast_S_S1x256 (constantI S_ 32 0#32)))) (subi (Host.divsi (broadcastInDim S1x256 ![1] bcast_S256_S1x256_1 (iotaInDim S256 32 0)) (broadcastInDim S1x256 ![] bcast_S_S1x256 (id (constantI S_ 32 4#32)))) (broadcastInDim S1x256 ![] bcast_S_S1x256 (constantI S_ 32 1#32))) (Host.divsi (broadcastInDim S1x256 ![1] bcast_S256_S1x256_1 (iotaInDim S256 32 0)) (broadcastInDim S1x256 ![] bcast_S_S1x256 (id (constantI S_ 32 4#32))))))

/-- The cosine table. -/
def rC : FVec Ideal S320x320 .f32 :=
  Host.cos (mulf (broadcastInDim S320x320 ![] bcast_S_S320x320 (id (Host.divf (mulf (constant S_ .f32 0x40000000#32) (Host.atan2 (constant S_ .f32 0x00000000#32) (constant S_ .f32 0xBF800000#32))) (constant S_ .f32 0x43A00000#32)))) (sitofp .f32 (muli (broadcastInDim S320x320 ![0, 1] bcast_S320x1_S320x320_0_1 (broadcastInDim S320x1 ![0] bcast_S320_S320x1_0 (iotaInDim S320 32 0))) (broadcastInDim S320x320 ![0, 1] bcast_S1x320_S320x320_0_1 (broadcastInDim S1x320 ![1] bcast_S320_S1x320_1 (iotaInDim S320 32 0))))))

/-- The negated sine table. -/
def rS : FVec Ideal S320x320 .f32 :=
  Host.negf (Host.sin (mulf (broadcastInDim S320x320 ![] bcast_S_S320x320 (id (Host.divf (mulf (constant S_ .f32 0x40000000#32) (Host.atan2 (constant S_ .f32 0x00000000#32) (constant S_ .f32 0xBF800000#32))) (constant S_ .f32 0x43A00000#32)))) (sitofp .f32 (muli (broadcastInDim S320x320 ![0, 1] bcast_S320x1_S320x320_0_1 (broadcastInDim S320x1 ![0] bcast_S320_S320x1_0 (iotaInDim S320 32 0))) (broadcastInDim S320x320 ![0, 1] bcast_S1x320_S320x320_0_1 (broadcastInDim S1x320 ![1] bcast_S320_S1x320_1 (iotaInDim S320 32 0)))))))

/-- The cosine transform along the first axis. -/
def rA (X : FVec Ideal S256x320x320 .f32) : FVec Ideal S256x320x320 .f32 :=
  transpose S256x320x320 [0, 2, 1] (Host.dotGeneral dot_S256x320x320_S320x320_S256x320x320_1_1_02_0_n_n none X (rC )) transposes_S256x320x320_S256x320x320_0_2_1

/-- The sine transform along the first axis. -/
def rB (X : FVec Ideal S256x320x320 .f32) : FVec Ideal S256x320x320 .f32 :=
  transpose S256x320x320 [0, 2, 1] (Host.dotGeneral dot_S256x320x320_S320x320_S256x320x320_1_1_02_0_n_n none X (rS )) transposes_S256x320x320_S256x320x320_0_2_1

/-- The real part. -/
def rRe (X : FVec Ideal S256x320x320 .f32) : FVec Ideal S256x320x320 .f32 :=
  subf (Host.dotGeneral dot_S256x320x320_S320x320_S256x320x320_2_0_01_1_n_n none (rA X) (rC )) (Host.dotGeneral dot_S256x320x320_S320x320_S256x320x320_2_0_01_1_n_n none (rB X) (rS ))

/-- The imaginary part. -/
def rIm (X : FVec Ideal S256x320x320 .f32) : FVec Ideal S256x320x320 .f32 :=
  addf (Host.dotGeneral dot_S256x320x320_S320x320_S256x320x320_2_0_01_1_n_n none (rA X) (rS )) (Host.dotGeneral dot_S256x320x320_S320x320_S256x320x320_2_0_01_1_n_n none (rB X) (rC ))

/-- The mean square modulus. -/
def rPsd (X : FVec Ideal S256x320x320 .f32) : FVec Ideal S320x320 .f32 :=
  Host.divf (Host.reduceAdd (addf (mulf (rRe X) (rRe X)) (mulf (rIm X) (rIm X))) (constant S_ .f32 0x00000000#32) reducesTo_S256x320x320_S320x320_d0 h_S_) (broadcastInDim S320x320 ![] bcast_S_S320x320 (constant S_ .f32 0x43800000#32))

/-- The negated distances inside a group. -/
def rPos (X : FVec Ideal S256x320x320 .f32) : FVec Ideal S256x256 .f32 :=
  select (andi (rUp ) (rSame )) (Host.negf (rDist X)) (broadcastInDim S256x256 ![] bcast_S_S256x256 (id (constant S_ .f32 0x00000000#32)))

/-- The sum of all the negated distances. -/
def rTot (X : FVec Ideal S256x320x320 .f32) : FVec Ideal S_ .f32 :=
  addf (Host.reduceAdd (select (andi (rUp ) (noti (rSame ))) (Host.negf (rDist X)) (broadcastInDim S256x256 ![] bcast_S_S256x256 (id (constant S_ .f32 0x00000000#32)))) (constant S_ .f32 0x00000000#32) reducesTo_S256x256_S_d0_1 h_S_) (Host.reduceAdd (rPos X) (constant S_ .f32 0x00000000#32) reducesTo_S256x256_S_d0_1 h_S_)

/-- The negated logarithms of the column sums. -/
def rLoss (X : FVec Ideal S256x320x320 .f32) : FVec Ideal S256 .f32 :=
  Host.negf (Host.log (Host.reduceAdd (addf (Host.divf (rPos X) (broadcastInDim S256x256 ![] bcast_S_S256x256 (rTot X))) (transpose S256x256 [1, 0] (Host.divf (rPos X) (broadcastInDim S256x256 ![] bcast_S_S256x256 (rTot X))) transposes_S256x256_S256x256_1_0)) (constant S_ .f32 0x00000000#32) reducesTo_S256x256_S256_d0 h_S_))

/-- The result. -/
def rOut (X : FVec Ideal S256x320x320 .f32) : FVec Ideal S_ .f32 :=
  subf (Host.reduceAdd (rLoss X) (constant S_ .f32 0x00000000#32) reducesTo_S256_S_d0 h_S_) (mulf (constant S_ .f32 0x3DCCCCCD#32) (subf (Host.divf (Host.reduceAdd (Host.log (rPsd X)) (constant S_ .f32 0x00000000#32) reducesTo_S320x320_S_d0_1 h_S_) (constant S_ .f32 0x47C80000#32)) (Host.log (Host.divf (Host.reduceAdd (rPsd X) (constant S_ .f32 0x00000000#32) reducesTo_S320x320_S_d0_1 h_S_) (constant S_ .f32 0x47C80000#32)))))

theorem res_eq (m : (ℓ : Loc nD τ sig) → Buf (Elt Ideal) ℓ) (c : Dev nD) :
    res_main_v98 (F := Ideal) m c = rOut (m ((c.tc : Thread nD τ).loc main_arg0)) := rfl

end Cert.ReferenceIdeal.Value

end
-- ==== Proof.RefVal.lean ====
/- The stages of the reference, each at an index. -/
module

public import proofs.«01_k».proof.Proof.RefStage
public import proofs.«01_k».proof.Proof.Words

@[expose] public section

set_option maxRecDepth 16384

noncomputable section

namespace Cert.ReferenceIdeal.Value

open Cert.ReferenceIdeal Cert.ReferenceIdeal.Gen Cert.Spec
open Idealize.ShloMosaic Idealize.ShloMosaic.TcCoe Idealize.ShloMosaic.StableHlo

/-- The argument, as samples. -/
def smps (X : FVec Ideal S256x320x320 .f32) : Samples := fun n h w => X (ix3 n h w)

theorem rDist_at (X : FVec Ideal S256x320x320 .f32) (a b : Fin 256) :
    rDist X (ix2 a b) = gap (gram (smps X)) (tally (smps X)) a b := by
  unfold gap gram tally flat smps
  pointwise [rDist, rX]

theorem rUp_at (a b : Fin 256) : rUp (ix2 a b) = BitVec.ofBool (decide (a < b)) := by
  rw [← sgt_eq]
  pointwise [rUp]

theorem rSame_at (a b : Fin 256) : rSame (ix2 a b) = BitVec.ofBool (decide (grp a b)) := by
  rw [← same_host]
  unfold hostQuot
  pointwise [rSame, id, constantI]

theorem rC_at (k h : Fin 320) : rC (ix2 k h) = cT k.val h.val := by
  rw [← cos_eq]
  pointwise [rC, id]

theorem rS_at (k h : Fin 320) : rS (ix2 k h) = sT k.val h.val := by
  rw [← sin_eq]
  pointwise [rS, id]

theorem rA_at (X : FVec Ideal S256x320x320 .f32) (n : Fin 256) (k w : Fin 320) :
    rA X (ix3 n k w) = ra (smps X) n k.val w := by
  have e : rA X (ix3 n k w) = ∑ h : Fin 320, X (ix3 n h w) * rC (ix2 k h) := by
    pointwise [rA]
  simp only [e, rC_at]
  rfl

theorem rB_at (X : FVec Ideal S256x320x320 .f32) (n : Fin 256) (k w : Fin 320) :
    rB X (ix3 n k w) = rb (smps X) n k.val w := by
  have e : rB X (ix3 n k w) = ∑ h : Fin 320, X (ix3 n h w) * rS (ix2 k h) := by
    pointwise [rB]
  simp only [e, rS_at]
  rfl

theorem rRe_at (X : FVec Ideal S256x320x320 .f32) (n : Fin 256) (k l : Fin 320) :
    rRe X (ix3 n k l) = re (smps X) n k.val l.val := by
  have e : rRe X (ix3 n k l) = ∑ x : Fin 320, rA X (ix3 n k x) * rC (ix2 x l) - ∑ x : Fin 320, rB X (ix3 n k x) * rS (ix2 x l) := by
    pointwise [rRe]
  simp only [e, rC_at, rS_at, rA_at, rB_at]
  rfl

theorem rIm_at (X : FVec Ideal S256x320x320 .f32) (n : Fin 256) (k l : Fin 320) :
    rIm X (ix3 n k l) = im (smps X) n k.val l.val := by
  have e : rIm X (ix3 n k l) = ∑ x : Fin 320, rA X (ix3 n k x) * rS (ix2 x l) + ∑ x : Fin 320, rB X (ix3 n k x) * rC (ix2 x l) := by
    pointwise [rIm]
  simp only [e, rC_at, rS_at, rA_at, rB_at]
  rfl

theorem rPsd_at (X : FVec Ideal S256x320x320 .f32) (k l : Fin 320) :
    rPsd X (ix2 k l) = psd (smps X) k.val l.val := by
  unfold psd
  simp only [← rRe_at, ← rIm_at]
  pointwise [rPsd]

theorem rPos_at (X : FVec Ideal S256x320x320 .f32) (a b : Fin 256) :
    rPos X (ix2 a b) = pos (gap (gram (smps X)) (tally (smps X))) a b := by
  have e : rPos X (ix2 a b) = Scalar.select (IntOp.andi (rUp (ix2 a b)) (rSame (ix2 a b))) (-rDist X (ix2 a b)) 0 := by
    pointwise [rPos, id]
  rw [e, rUp_at, rSame_at, rDist_at, select_and]
  rfl

theorem rTot_at (X : FVec Ideal S256x320x320 .f32) :
    rTot X ix0 = tot (gap (gram (smps X)) (tally (smps X))) := by
  have e : rTot X ix0 = ∑ a : Fin 256, ∑ b : Fin 256,
      Scalar.select (IntOp.andi (rUp (ix2 a b)) (~~~rSame (ix2 a b))) (-rDist X (ix2 a b)) 0
      + ∑ a : Fin 256, ∑ b : Fin 256, rPos X (ix2 a b) := by
    pointwise [rTot, id]
  rw [e, ← Finset.sum_add_distrib]
  refine Finset.sum_congr rfl fun a _ => ?_
  rw [← Finset.sum_add_distrib]
  refine Finset.sum_congr rfl fun b _ => ?_
  rw [rUp_at, rSame_at, rPos_at, rDist_at, select_and_not]
  unfold pos
  by_cases h : a < b <;> by_cases g : grp a b <;> simp [h, g]

theorem rLoss_at (X : FVec Ideal S256x320x320 .f32) (b : Fin 256) :
    rLoss X (ix1 b) = -Ideal.log (∑ a : Fin 256,
      (Ideal.div (pos (gap (gram (smps X)) (tally (smps X))) a b) (tot (gap (gram (smps X)) (tally (smps X))))
        + Ideal.div (pos (gap (gram (smps X)) (tally (smps X))) b a) (tot (gap (gram (smps X)) (tally (smps X)))))) := by
  have e : rLoss X (ix1 b) = -Ideal.log (∑ a : Fin 256,
      (Ideal.div (rPos X (ix2 a b)) (rTot X ix0) + Ideal.div (rPos X (ix2 b a)) (rTot X ix0))) := by
    pointwise [rLoss]
  simp only [e, rPos_at, rTot_at]

/-- The reference's result. -/
theorem rOut_at (X : FVec Ideal S256x320x320 .f32) : rOut X ix0 = out (smps X) := by
  have e : rOut X ix0 = fin (∑ k : Fin 256, rLoss X (ix1 k))
      (∑ k : Fin 320, ∑ l : Fin 320, Ideal.log (rPsd X (ix2 k l))) (∑ k : Fin 320, ∑ l : Fin 320, rPsd X (ix2 k l)) := by
    unfold fin
    pointwise [rOut]
  simp only [e, rLoss_at, rPsd_at]
  rfl

end Cert.ReferenceIdeal.Value

end
-- ==== Proof.Algebraic.lean ====
/- The value claim: over the extended reals the kernel's result is the reference's. -/
module

public import proofs.«01_k».proof.Defs
public import proofs.«01_k».proof.Proof.Chain
public import proofs.«01_k».proof.Proof.RefStage
public import proofs.«01_k».proof.Proof.RefVal

@[expose] public section

noncomputable section

namespace Cert.Proof

open Idealize.ShloMosaic Idealize.ShloMosaic.TcCoe Idealize.SL.Sem

/-- Both runs end with the same result. -/
theorem algebraic : Cert.algebraic_KernelIdeal_ReferenceIdeal := by
  intro m ρ m' ρ' _ hagree
  refine ⟨fun c => Cert.KernelIdeal.Whole.W5 (F := Ideal) m c Cert.KernelIdeal.main_v34,
    (θ_run Cert.KernelIdeal.defs _ _).mono (fun _ h => h.1) (Cert.KernelIdeal.Whole.run (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Value.res_eq, hagree c]
  funext i
  rw [Subsingleton.elim i ix0]
  exact (Cert.ReferenceIdeal.Value.rOut_at _).trans (Cert.KernelIdeal.Chain.result_at m c).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Claims
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, frame_p, frame_pi, frame_ri, preserves, algebraic⟩

end Cert.Proof

end
